-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2x64x2048 : Shape := ⟨3, ![2, 64, 2048]⟩
abbrev S31x64x2048 : Shape := ⟨3, ![31, 64, 2048]⟩
abbrev S2 : Shape := ⟨1, ![2]⟩
abbrev S31 : Shape := ⟨1, ![31]⟩
abbrev S_ : Shape := ⟨0, ![]⟩
abbrev S64x64 : Shape := ⟨2, ![64, 64]⟩
abbrev S1x64x2048 : Shape := ⟨3, ![1, 64, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .bf16⟩
  | .hbm, ⟨1, _⟩ => ⟨S64x2048, .bf16⟩
  | .hbm, ⟨2, _⟩ => ⟨S64x2048, .f32⟩
  | .local _ .vmem, ⟨0, _⟩ => ⟨S2048x64, .bf16⟩
  | .local _ .vmem, ⟨1, _⟩ => ⟨S64x2048, .bf16⟩
  | .local _ .vmem, ⟨2, _⟩ => ⟨S64x2048, .f32⟩
  | .local _ .vmem, ⟨3, _⟩ => ⟨S64x2048, .bf16⟩
  | .local _ .vmem, ⟨4, _⟩ => ⟨S2x64x2048, .bf16⟩
  | .local _ .vmem, ⟨5, _⟩ => ⟨S31x64x2048, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_13 : BitVec 32 := 32#32
  let v18 : BitVec 32 := Scalar.addi v2 c32_i32_13
  let c1_i32_14 : BitVec 32 := 1#32
  let v19 : BitVec 32 := Scalar.subi v18 c1_i32_14
  let c32_i32_15 : BitVec 32 := 32#32
  let v20 : BitVec 32 := Scalar.remsi v19 c32_i32_15
  let c64_i32 : BitVec 32 := 64#32
  let v21 : BitVec 32 := Scalar.muli v20 c64_i32
  let v22 : Index := Scalar.indexCast v21
  let c0_16 : Index := 0#32
  ![v22.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_26 : BitVec 32 := 1#32
  let v31 : BitVec 32 := Scalar.muli v7 c1_i32_26
  let v32 : BitVec 32 := Scalar.addi c0_i32_27 v31
  v32.toNat
def k0_off2 (d0 : Dev nD) (c0_i32_34 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_32 : BitVec 32 := 64#32
  let v41 : BitVec 32 := Scalar.addi v2 c64_i32_32
  let c2_i32_33 : BitVec 32 := 2#32
  let v42 : BitVec 32 := Scalar.subi v41 c2_i32_33
  let v43 : BitVec 32 := Scalar.subi v42 c0_i32_34
  let c32_i32_35 : BitVec 32 := 32#32
  let v44 : BitVec 32 := Scalar.remsi v43 c32_i32_35
  let c64_i32_36 : BitVec 32 := 64#32
  let v45 : BitVec 32 := Scalar.muli v44 c64_i32_36
  let v46 : Index := Scalar.indexCast v45
  let c0_37 : Index := 0#32
  ![v46.toNat, 0]
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_69 : BitVec 32 := 1#32
  let v73 : BitVec 32 := Scalar.muli v7 c1_i32_69
  let v74 : BitVec 32 := Scalar.addi c0_i32_70 v73
  v74.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_113 : BitVec 32 := 1#32
  let v115 : BitVec 32 := Scalar.muli v7 c1_i32_113
  let v116 : BitVec 32 := Scalar.addi c0_i32_114 v115
  v116.toNat
def k0_dev6 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_155 : BitVec 32 := 1#32
  let v157 : BitVec 32 := Scalar.muli v7 c1_i32_155
  let v158 : BitVec 32 := Scalar.addi c0_i32_156 v157
  v158.toNat
def k0_dev7 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_197 : BitVec 32 := 1#32
  let v199 : BitVec 32 := Scalar.muli v7 c1_i32_197
  let v200 : BitVec 32 := Scalar.addi c0_i32_198 v199
  v200.toNat
def k0_dev8 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_239 : BitVec 32 := 1#32
  let v241 : BitVec 32 := Scalar.muli v7 c1_i32_239
  let v242 : BitVec 32 := Scalar.addi c0_i32_240 v241
  v242.toNat
def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_281 : BitVec 32 := 1#32
  let v283 : BitVec 32 := Scalar.muli v7 c1_i32_281
  let v284 : BitVec 32 := Scalar.addi c0_i32_282 v283
  v284.toNat
def k0_dev10 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_323 : BitVec 32 := 1#32
  let v325 : BitVec 32 := Scalar.muli v7 c1_i32_323
  let v326 : BitVec 32 := Scalar.addi c0_i32_324 v325
  v326.toNat
def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_365 : BitVec 32 := 1#32
  let v367 : BitVec 32 := Scalar.muli v7 c1_i32_365
  let v368 : BitVec 32 := Scalar.addi c0_i32_366 v367
  v368.toNat
def k0_dev12 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_407 : BitVec 32 := 1#32
  let v409 : BitVec 32 := Scalar.muli v7 c1_i32_407
  let v410 : BitVec 32 := Scalar.addi c0_i32_408 v409
  v410.toNat
def k0_dev13 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_449 : BitVec 32 := 1#32
  let v451 : BitVec 32 := Scalar.muli v7 c1_i32_449
  let v452 : BitVec 32 := Scalar.addi c0_i32_450 v451
  v452.toNat
def k0_dev14 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_491 : BitVec 32 := 1#32
  let v493 : BitVec 32 := Scalar.muli v7 c1_i32_491
  let v494 : BitVec 32 := Scalar.addi c0_i32_492 v493
  v494.toNat
def k0_dev15 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_533 : BitVec 32 := 1#32
  let v535 : BitVec 32 := Scalar.muli v7 c1_i32_533
  let v536 : BitVec 32 := Scalar.addi c0_i32_534 v535
  v536.toNat
def k0_dev16 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_575 : BitVec 32 := 1#32
  let v577 : BitVec 32 := Scalar.muli v7 c1_i32_575
  let v578 : BitVec 32 := Scalar.addi c0_i32_576 v577
  v578.toNat
def k0_dev17 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_617 : BitVec 32 := 1#32
  let v619 : BitVec 32 := Scalar.muli v7 c1_i32_617
  let v620 : BitVec 32 := Scalar.addi c0_i32_618 v619
  v620.toNat
def k0_dev18 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_659 : BitVec 32 := 1#32
  let v661 : BitVec 32 := Scalar.muli v7 c1_i32_659
  let v662 : BitVec 32 := Scalar.addi c0_i32_660 v661
  v662.toNat
def k0_dev19 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_701 : BitVec 32 := 1#32
  let v703 : BitVec 32 := Scalar.muli v7 c1_i32_701
  let v704 : BitVec 32 := Scalar.addi c0_i32_702 v703
  v704.toNat
def k0_dev20 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_743 : BitVec 32 := 1#32
  let v745 : BitVec 32 := Scalar.muli v7 c1_i32_743
  let v746 : BitVec 32 := Scalar.addi c0_i32_744 v745
  v746.toNat
def k0_dev21 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_785 : BitVec 32 := 1#32
  let v787 : BitVec 32 := Scalar.muli v7 c1_i32_785
  let v788 : BitVec 32 := Scalar.addi c0_i32_786 v787
  v788.toNat
def k0_dev22 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_827 : BitVec 32 := 1#32
  let v829 : BitVec 32 := Scalar.muli v7 c1_i32_827
  let v830 : BitVec 32 := Scalar.addi c0_i32_828 v829
  v830.toNat
def k0_dev23 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_869 : BitVec 32 := 1#32
  let v871 : BitVec 32 := Scalar.muli v7 c1_i32_869
  let v872 : BitVec 32 := Scalar.addi c0_i32_870 v871
  v872.toNat
def k0_dev24 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_911 : BitVec 32 := 1#32
  let v913 : BitVec 32 := Scalar.muli v7 c1_i32_911
  let v914 : BitVec 32 := Scalar.addi c0_i32_912 v913
  v914.toNat
def k0_dev25 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_953 : BitVec 32 := 1#32
  let v955 : BitVec 32 := Scalar.muli v7 c1_i32_953
  let v956 : BitVec 32 := Scalar.addi c0_i32_954 v955
  v956.toNat
def k0_dev26 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_995 : BitVec 32 := 1#32
  let v997 : BitVec 32 := Scalar.muli v7 c1_i32_995
  let v998 : BitVec 32 := Scalar.addi c0_i32_996 v997
  v998.toNat
def k0_dev27 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1037 : BitVec 32 := 1#32
  let v1039 : BitVec 32 := Scalar.muli v7 c1_i32_1037
  let v1040 : BitVec 32 := Scalar.addi c0_i32_1038 v1039
  v1040.toNat
def k0_dev28 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1079 : BitVec 32 := 1#32
  let v1081 : BitVec 32 := Scalar.muli v7 c1_i32_1079
  let v1082 : BitVec 32 := Scalar.addi c0_i32_1080 v1081
  v1082.toNat
def k0_dev29 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1121 : BitVec 32 := 1#32
  let v1123 : BitVec 32 := Scalar.muli v7 c1_i32_1121
  let v1124 : BitVec 32 := Scalar.addi c0_i32_1122 v1123
  v1124.toNat
def k0_dev30 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1163 : BitVec 32 := 1#32
  let v1165 : BitVec 32 := Scalar.muli v7 c1_i32_1163
  let v1166 : BitVec 32 := Scalar.addi c0_i32_1164 v1165
  v1166.toNat
def k0_dev31 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1205 : BitVec 32 := 1#32
  let v1207 : BitVec 32 := Scalar.muli v7 c1_i32_1205
  let v1208 : BitVec 32 := Scalar.addi c0_i32_1206 v1207
  v1208.toNat
def k0_dev32 (d0 : Dev nD) : Nat :=
  let c0_i32_1248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1247 : BitVec 32 := 1#32
  let v1249 : BitVec 32 := Scalar.muli v7 c1_i32_1247
  let v1250 : BitVec 32 := Scalar.addi c0_i32_1248 v1249
  v1250.toNat
def k0_dev33 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1289 : BitVec 32 := 1#32
  let v1291 : BitVec 32 := Scalar.muli v7 c1_i32_1289
  let v1292 : BitVec 32 := Scalar.addi c0_i32_1290 v1291
  v1292.toNat
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Chain.lean ====
/-
# The kernel as a loop

The printed kernel writes its thirty-one ring hops out one after the other. Here the same program is a recursion:
a prologue (two barrier signals, the barrier wait, the copy of `w`, the first block) and then one `hop` per step.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.RingProof

open Cert.KernelIdeal Cert.KernelIdeal.Gen
open Idealize.ShloMosaic
open Idealize.ShloMosaic.TcCoe
open Idealize.SL.Sem

variable {F : FTy → Type} [FloatOps F]

/-! ## The buffers, their slots and their semaphores -/

abbrev xM : Memref sig .tc .vmem S2048x64 .bf16 := Memref.whole cc0_stg0_0
abbrev wM : Memref sig .tc .vmem S64x2048 .bf16 := Memref.whole cc0_stg1_0
abbrev oM : Memref sig .tc .vmem S64x2048 .f32 := Memref.whole cc0_stg2_0
abbrev bM : Memref sig .tc .vmem S64x2048 .bf16 := Memref.whole cc0_scratch0
abbrev sM : Memref sig .tc .vmem S2x64x2048 .bf16 := Memref.whole cc0_scratch1
abbrev rM : Memref sig .tc .vmem S31x64x2048 .bf16 := Memref.whole cc0_scratch2

/-- A send slot lies inside the send buffer. -/
theorem send_inb (k : Fin 2) : ∀ a, (![k.val, 0, 0] : Fin 3 → Nat) a + S1x64x2048.size a ≤ S2x64x2048.size a := by
  revert k; decide
/-- A receive slot lies inside the receive buffer. -/
theorem recv_inb (s : Fin 31) : ∀ a, (![s.val, 0, 0] : Fin 3 → Nat) a + S1x64x2048.size a ≤ S31x64x2048.size a := by
  revert s; decide
/-- A send semaphore lies inside its array. -/
theorem sendSem_inb (k : Fin 2) : ∀ a, (![k.val] : Fin 1 → Nat) a + S1.size a ≤ S2.size a := by revert k; decide
/-- A receive semaphore lies inside its array. -/
theorem recvSem_inb (s : Fin 31) : ∀ a, (![s.val] : Fin 1 → Nat) a + S1.size a ≤ S31.size a := by revert s; decide

abbrev sendR (k : Fin 2) : Rect S2x64x2048 := Rect.unit (s := S2x64x2048) ![k.val, 0, 0] S1x64x2048.size (send_inb k)
abbrev recvR (s : Fin 31) : Rect S31x64x2048 := Rect.unit (s := S31x64x2048) ![s.val, 0, 0] S1x64x2048.size (recv_inb s)

/-- A send slot is whole machine words. -/
theorem send_words (k : Fin 2) : (sendR k).WholeWords (EltTy.packing .bf16) := by revert k; decide
/-- A send slot's rows are packed. -/
theorem send_packed (k : Fin 2) : (sendR k).PackedRows (EltTy.packing .bf16) := by revert k; decide
/-- A receive slot is whole machine words. -/
theorem recv_words (s : Fin 31) : (recvR s).WholeWords (EltTy.packing .bf16) := by revert s; decide

abbrev sendM (k : Fin 2) : Memref sig .tc .vmem S64x2048 .bf16 :=
  (sM.slice (sendR k) (fun _ => rfl)).squeeze S64x2048 squeezes_S1x64x2048_S64x2048
abbrev recvM (s : Fin 31) : Memref sig .tc .vmem S64x2048 .bf16 :=
  (rM.slice (recvR s) (fun _ => rfl)).squeeze S64x2048 squeezes_S1x64x2048_S64x2048

abbrev sendSem (k : Fin 2) : DmaSem sig :=
  ((cc0_scratch3.slice (Rect.unit (s := S2) ![k.val] S1.size (sendSem_inb k))).squeeze S_ squeezes_S1_S_).sem
abbrev recvSem (s : Fin 31) : DmaSem sig :=
  ((cc0_scratch4.slice (Rect.unit (s := S31) ![s.val] S1.size (recvSem_inb s))).squeeze S_ squeezes_S1_S_).sem

abbrev barS : Sem sig := (SemArray.scalar (sig.barrier 0 rfl) : Sems sig S_).sem

/-- A send slot is made of whole words. -/
theorem send_exact (k : Fin 2) : (sendM k).view.WordExact :=
  ((Memref.isWhole_whole cc0_scratch1).wordExact_slice rfl _ (send_words k)).reshape _ _
/-- A receive slot is made of whole words. -/
theorem recv_exact (s : Fin 31) : (recvM s).view.WordExact :=
  ((Memref.isWhole_whole cc0_scratch2).wordExact_slice rfl _ (recv_words s)).reshape _ _

/-! ## The program -/

abbrev wholeR : Rect S64x2048 := Rect.unit (s := S64x2048) ![0, 0] S64x2048.size inb_S64x2048_S64x2048_0_0
abbrev blkR (d : Dev nD) (s : Fin 31) : Rect S2048x64 :=
  Rect.unit (s := S2048x64) (k0_off2 d (BitVec.ofNat 32 s.val)) S64x64.size (k0_off2_inb d s)
abbrev blkR₀ (d : Dev nD) : Rect S2048x64 := Rect.unit (s := S2048x64) (k0_off1 d) S64x64.size (k0_off1_inb d)

/-- The send slot of step `s`. -/
abbrev par (s : ℕ) : Fin 2 := ⟨s % 2, Nat.mod_lt _ (by decide)⟩

/-- Step `s` up to what it received: start the copy to the right neighbour, load the next block's operands, wait
    for the copy out and the copy in, load what came in; then go on with the block's product and that. -/
def hop (d : Dev nD) (s : Fin 31) (k : FVec F S64x2048 .f32 → Vec F S1x64x2048 .bf16 → Prog (TpuEff nD τ sig (Elt F) Λ₀ .tc) PUnit) :
    Prog (TpuEff nD τ sig (Elt F) Λ₀ .tc) PUnit :=
  .op (.enqueueDma (sendM (par s.val)) (.remote (Dev.tc (⟨k0_dev3 d, k0_dev3_lt d⟩ : Dev nD)) (recvM s) (.dma (sendSem (par s.val)))) (.dma (recvSem s)) (send_exact _) (recv_exact _) ⟨⟨rfl, Or.inl rfl⟩, trivial⟩) fun _ =>
  .op (.load xM (blkR d s).toLoadRect (View.loadsAt_vmem h_S64x64)) fun xb =>
  .op (.load bM wholeR.toLoadRect (View.loadsAt_vmem h_S64x2048)) fun wb =>
  .op (.waitDma2 (sendSem (par s.val)) (recvM s) (sendM (par s.val)) (recv_exact _) (send_exact _)) fun _ =>
  .op (.waitDma2 (recvSem s) (sendM (par s.val)) (recvM s) (send_exact _) (recv_exact _)) fun _ =>
  .op (.load rM (recvR s).toLoadRect (View.loadsAt_vmem h_S1x64x2048)) fun r =>
  k (k0_pay5 xb wb) r

/-- Put `v` into send slot `k` (the slot is read first, and the read dropped). -/
def put (k : Fin 2) (v : FVec F S1x64x2048 .bf16) (rest : Prog (TpuEff nD τ sig (Elt F) Λ₀ .tc) PUnit) :
    Prog (TpuEff nD τ sig (Elt F) Λ₀ .tc) PUnit :=
  .op (.load sM (sendR k).toLoadRect (View.loadsAt_vmem h_S1x64x2048)) fun _ =>
  .op (.store sM (sendR k) v Finset.univ (View.stores_vmem h_S1x64x2048 ((Memref.isWhole_whole cc0_scratch1).storeExact_slice rfl _ (send_packed k)) (fun _ => rfl)) (.inl rfl)) fun _ =>
  rest

/-- The last step's end: the accumulated block to the output. -/
def finish (v : FVec F S64x2048 .f32) : Prog (TpuEff nD τ sig (Elt F) Λ₀ .tc) PUnit :=
  .op (.load oM wholeR.toLoadRect (View.loadsAt_vmem h_S64x2048)) fun _ =>
  .op (.store oM wholeR v Finset.univ (View.stores_vmem_bits_univ h_S64x2048 rfl) (.inl rfl)) fun _ =>
  .ret ⟨⟩

/-- Steps `s`, `s + 1`, …, `30`. -/
def hops (d : Dev nD) : (n : ℕ) → (s : ℕ) → s + n = 30 → Prog (TpuEff nD τ sig (Elt F) Λ₀ .tc) PUnit
  | 0, s, h => hop d ⟨s, by omega⟩ fun p r => finish (k0_pay1 p r)
  | n + 1, s, h => hop d ⟨s, by omega⟩ fun p r => put (par (s + 1)) (k0_pay6 p r) (hops d n (s + 1) (by omega))

/-- The whole kernel. -/
def loopBody : Prog (TpuEff nD τ sig (Elt F) Λ₀ .tc) PUnit :=
  .op .deviceId fun d =>
  .op (.semSignal ((⟨k0_dev1 d, k0_dev1_lt d⟩ : Dev nD), .tc) barS (1#32).toInt) fun _ =>
  .op (.semSignal ((⟨k0_dev2 d, k0_dev2_lt d⟩ : Dev nD), .tc) barS (1#32).toInt) fun _ =>
  .op (.semWait barS (2#32).toInt) fun _ =>
  .op (.load wM wholeR.toLoadRect (View.loadsAt_vmem h_S64x2048)) fun w =>
  .op (.load bM wholeR.toLoadRect (View.loadsAt_vmem h_S64x2048)) fun _ =>
  .op (.store bM wholeR (k0_pay2 w) Finset.univ (View.stores_vmem h_S64x2048 ((Memref.isWhole_whole cc0_scratch0).storeExact_slice rfl _ packedbf16_S64x2048_S64x2048_0_0) (fun _ => rfl)) (.inl rfl)) fun _ =>
  .op (.load xM (blkR₀ d).toLoadRect (View.loadsAt_vmem h_S64x64)) fun xb =>
  .op (.load bM wholeR.toLoadRect (View.loadsAt_vmem h_S64x2048)) fun wb =>
  put 0 (k0_pay4 (k0_pay3 xb wb)) (hops d 30 0 rfl)

set_option maxHeartbeats 2000000 in
/-- The printed kernel is the loop: each of its thirty-one steps is the loop's step at that number. -/
theorem cc0_body_eq_loop :
    cc0_body (F := F) xM (Memref.isWhole_whole _) wM (Memref.isWhole_whole _) oM (Memref.isWhole_whole _) bM (Memref.isWhole_whole _)
      sM (Memref.isWhole_whole _) rM (Memref.isWhole_whole _) cc0_scratch3 cc0_scratch4 = loopBody := by
  rw [cc0_body_eq_skeleton]
  chain_rfl

end Cert.RingProof
-- ==== Proof.Plan.lean ====
/-
# The ring's protocol

Each device accumulates one row block of the product and passes partial sums to its right neighbour, thirty-one hops
in all. A device's cells: its barrier cell, two send cells (one per send slot, used in turn, one round per use) and
thirty-one receive cells (one per hop, one round each). This module states what every buffer holds at each hop, what
each cell's completion hands over, what a device owes at launch, and the order in which the waits may happen.
-/
module

public import proofs.«01_k».proof.Proof.Chain
public import Idealize.ShloMosaic.Lib.Ring
public import Idealize.ShloMosaic.Lib.Pipeline.Value

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The ring -/

set_option backward.proofsInPublic true in
/-- The right neighbour. -/
def nxt (c : Dev nD) : Dev nD := ⟨(c.val + 1) % 32, Nat.mod_lt _ (by decide)⟩
set_option backward.proofsInPublic true in
/-- The left neighbour. -/
def prv (c : Dev nD) : Dev nD := ⟨(c.val + 31) % 32, Nat.mod_lt _ (by decide)⟩

/-- The left neighbour of the right neighbour. -/
theorem prv_nxt (c : Dev nD) : prv (nxt c) = c := by revert c; decide
/-- The right neighbour of the left neighbour. -/
theorem nxt_prv (c : Dev nD) : nxt (prv c) = c := by revert c; decide

/-- The first signal goes left. -/
theorem dev1_eq (c : Dev nD) : (⟨k0_dev1 c, k0_dev1_lt c⟩ : Dev nD) = prv c := Fin.ext (k0_dev1_eq c)
/-- The second signal goes right. -/
theorem dev2_eq (c : Dev nD) : (⟨k0_dev2 c, k0_dev2_lt c⟩ : Dev nD) = nxt c := Fin.ext (k0_dev2_eq c)
/-- Every copy goes right. -/
theorem dev3_eq (c : Dev nD) : (⟨k0_dev3 c, k0_dev3_lt c⟩ : Dev nD) = nxt c := Fin.ext (k0_dev3_eq c)

/-- Going right, as a permutation of the devices. -/
def ring : Dev nD ≃ Dev nD := ⟨nxt, prv, prv_nxt, nxt_prv⟩

/-! ## The cells -/

abbrev barCell (c : Dev nD) : GSem nD τ sig := ((c : Thread nD τ), .reg barS)
abbrev sendCell (c : Dev nD) (k : Fin 2) : GSem nD τ sig := ((c : Thread nD τ), .dma (sendSem k))
abbrev recvCell (c : Dev nD) (s : Fin 31) : GSem nD τ sig := ((c : Thread nD τ), .dma (recvSem s))

/-- What a semaphore is for. -/
inductive Role where
  | bar
  | send (k : Fin 2)
  | recv (s : Fin 31)
  | other
  deriving DecidableEq

/-- The role of each semaphore of a device, read off its number. -/
def role : SemLoc sig → Role
  | .reg s => if s = barS then .bar else .other
  | .dma q => if h : 5 ≤ q.val ∧ q.val < 36 then .recv ⟨q.val - 5, by omega⟩
      else if h : 3 ≤ q.val ∧ q.val < 5 then .send ⟨q.val - 3, by omega⟩ else .other

/-- The role of the barrier semaphore. -/
theorem role_bar : role (.reg barS) = .bar := by unfold role; exact if_pos rfl
/-- The role of a send semaphore. -/
theorem role_send (k : Fin 2) : role (.dma (sendSem k)) = .send k := by revert k; decide
/-- The role of a receive semaphore. -/
theorem role_recv (s : Fin 31) : role (.dma (recvSem s)) = .recv s := by revert s; decide

/-- A device's own DMA cells: two send, thirty-one receive; and all its cells, the barrier first. -/
abbrev OK : Type := Fin 2 ⊕ Fin 31
abbrev CK : Type := Unit ⊕ OK
abbrev osem : OK → SemLoc sig := Sum.elim (fun k => .dma (sendSem k)) (fun s => .dma (recvSem s))
abbrev csem : CK → SemLoc sig := Sum.elim (fun _ => .reg barS) osem
abbrev kcell (ck : Dev nD × CK) : GSem nD τ sig := ((ck.1 : Thread nD τ), csem ck.2)

/-- What one block's copy counts for. -/
def N : ℕ := (recvM 0).view.dmaCredit
/-- A copy credits more than nothing. -/
theorem N_pos : 0 < N := View.dmaCredit_pos _ (by decide)
/-- A copy into a receive slot credits `N`. -/
theorem credit_recv (s : Fin 31) : (recvM s).view.dmaCredit = N := rfl
/-- A copy out of a send slot credits `N`. -/
theorem credit_send (k : Fin 2) : (sendM k).view.dmaCredit = N := rfl

/-! ## Contents -/

/-- The staged block of `x`. -/
def xstg (c : Dev nD) : (cc0_stg0_0 : Ref sig .tc).ty.Contents (Elt F) :=
  (win0_0.blk (0 : Fin 1)).view.read (Elt F) ((s₀ m ρ).mem ((c : Thread nD τ).loc main_arg0))
/-- The staged block of `w`. -/
def wstg (c : Dev nD) : (cc0_stg1_0 : Ref sig .tc).ty.Contents (Elt F) :=
  (win0_1.blk (0 : Fin 1)).view.read (Elt F) ((s₀ m ρ).mem ((c : Thread nD τ).loc main_arg1))

/-- The kernel's copy of `w`. -/
def wb (c : Dev nD) : (cc0_scratch0 : Ref sig .tc).ty.Contents (Elt F) := k0_pay2 (wstg m ρ c)

/-- A step's number as a slot of the receive buffer. -/
abbrev slot (s : ℕ) : Fin 31 := ⟨s % 31, Nat.mod_lt _ (by decide)⟩
/-- Below 31 a hop is its own receive slot. -/
theorem slot_eq {s : ℕ} (h : s < 31) : slot s = ⟨s, h⟩ := Fin.ext (Nat.mod_eq_of_lt h)

/-- The product of the block of `x` used at step `s` with `w`. -/
def part (c : Dev nD) (s : ℕ) : FVec F S64x2048 .f32 :=
  k0_pay5 (xM.view.readAt (Elt F) (blkR c (slot s)).toLoadRect (xstg m ρ c)) (wb m ρ c)

/-- A received partial sum plus a product. -/
def up (X : FVec F S64x2048 .bf16) (p : FVec F S64x2048 .f32) : FVec F S64x2048 .f32 :=
  addf (extf .f32 X bitsLt_bf16_f32) p

/-- What device `c` sends at step `s`. -/
def sent : ℕ → Dev nD → FVec F S64x2048 .bf16
  | 0, c => k0_pay3 (xM.view.readAt (Elt F) (blkR₀ c).toLoadRect (xstg m ρ c)) (wb m ρ c)
  | s + 1, c => truncf .bf16 (up (sent s (prv c)) (part m ρ c s)) bitsLt_bf16_f32

/-- What device `c` has accumulated after the last step: its result. -/
def outAt (c : Dev nD) : (cc0_stg2_0 : Ref sig .tc).ty.Contents (Elt F) := up (sent m ρ 30 (prv c)) (part m ρ c 30)

/-- The slot's value as a block. -/
abbrev flat (r : Vec F S1x64x2048 .bf16) : FVec F S64x2048 .bf16 := shapeCast S64x2048 r shapeCasts_S1x64x2048_S64x2048

/-- The last accumulation, from what was loaded. -/
theorem pay1_eq (p : FVec F S64x2048 .f32) (r : Vec F S1x64x2048 .bf16) : k0_pay1 p r = up (flat r) p := rfl
/-- An accumulation to be sent on, from what was loaded, as a block. -/
theorem pay6_eq (p : FVec F S64x2048 .f32) (r : Vec F S1x64x2048 .bf16) :
    flat (k0_pay6 p r) = truncf .bf16 (up (flat r) p) bitsLt_bf16_f32 :=
  shapeCast_shapeCast (truncf .bf16 (up (flat r) p) bitsLt_bf16_f32) shapeCasts_S64x2048_S1x64x2048 shapeCasts_S1x64x2048_S64x2048
/-- The first block to be sent, as a block. -/
theorem pay4_eq (v : FVec F S64x2048 .bf16) : flat (k0_pay4 v) = v :=
  shapeCast_shapeCast v shapeCasts_S64x2048_S1x64x2048 shapeCasts_S1x64x2048_S64x2048

/-! ## What is held of a buffer -/

/-- A memref's elements on device `c`, at contents `f`. -/
abbrev pts (c : Dev nD) {sh : Shape} {e : EltTy} (M : Memref sig .tc .vmem sh e) (f : Buf (Elt F) (M.view.loc (c : Thread nD τ))) : sProp 𝕄 :=
  M.view.loc (c : Thread nD τ) ↦[M.view.set]{fullShare} f

/-- A memref's elements on device `c`, at some contents. -/
def anyOf (c : Dev nD) {sh : Shape} {e : EltTy} (M : Memref sig .tc .vmem sh e) : sProp 𝕄 := iprop(∃ f, pts c M f)

/-- A memref's elements on device `c`, reading as `X`. -/
def holds (c : Dev nD) {sh : Shape} {e : EltTy} (M : Memref sig .tc .vmem sh e) (X : sh.Idx → Elt F e) : sProp 𝕄 :=
  iprop(∃ f, ⌜M.view.read (Elt F) f = X⌝ ∗ pts c M f)

omit [FloatOps F] in
instance anyOf_storable (c : Dev nD) {sh : Shape} {e : EltTy} (M : Memref sig .tc .vmem sh e) :
    BI.Storable (upEmb : UEmb _ 𝕄) (anyOf (F := F) c M) := by unfold anyOf; infer_instance
omit [FloatOps F] in
instance holds_storable (c : Dev nD) {sh : Shape} {e : EltTy} (M : Memref sig .tc .vmem sh e) (X : sh.Idx → Elt F e) :
    BI.Storable (upEmb : UEmb _ 𝕄) (holds (F := F) c M X) := by unfold holds; infer_instance

omit [FloatOps F] in
/-- Forgetting what is held. -/
theorem holds_any (c : Dev nD) {sh : Shape} {e : EltTy} (M : Memref sig .tc .vmem sh e) (X : sh.Idx → Elt F e) :
    (holds c M X : sProp 𝕄) ⊢ anyOf c M := by
  unfold holds anyOf; iintro ⟨%f, -, H⟩; iexists f; iexact H

/-! ## The schedule -/

/-- What the right neighbour's signal hands `c`: that neighbour's whole receive buffer, slot by slot. -/
def barPay (c : Dev nD) : sProp 𝕄 := bigSep Finset.univ fun s : Fin 31 => anyOf (F := F) (nxt c) (recvM s)
/-- What a landed copy hands `c`: its receive slot holding what its left neighbour sent at that step. -/
def recvPay (c : Dev nD) (s : Fin 31) : sProp 𝕄 := holds c (recvM s) (sent m ρ s.val (prv c))
/-- What a finished send hands back: the send slot. -/
def sendPay (c : Dev nD) (k : Fin 2) : sProp 𝕄 := anyOf (F := F) c (sendM k)

/-- A barrier cell has two unit duties at round 0; a receive cell one at round 0; send cell `k` one at each round `r`
    that some step uses: step `2 * r + k`. -/
def ringRd : Rounds.Schedule (GSem nD τ sig) Bool 𝕄 where
  duties g r := if g.1.2 = .tc then
      (match role g.2 with
        | .bar => if r = 0 then Finset.univ else ∅
        | .recv _ => if r = 0 then {false} else ∅
        | .send k => if 2 * r + k.val < 31 then {false} else ∅
        | .other => ∅)
    else ∅
  unitless _ := False
  amount g _ _ := match role g.2 with
    | .bar => 1
    | _ => N
  payload g _ d := match role g.2 with
    | .bar => if d then barPay g.1.1 else iprop(emp)
    | .recv s => recvPay m ρ g.1.1 s
    | .send k => sendPay g.1.1 k
    | .other => iprop(emp)
  amount_pos g _ _ _ := by
    cases role g.2 <;> first | exact Nat.one_pos | exact N_pos

instance ringRd_payload_storable (g : GSem nD τ sig) (r : ℕ) (d : Bool) :
    BI.Storable (upEmb : UEmb _ 𝕄) ((ringRd (F := F) m ρ).payload g r d) := by
  show BI.Storable upEmb (match role g.2 with
    | .bar => if d then barPay (F := F) g.1.1 else iprop(emp)
    | .recv s => recvPay m ρ g.1.1 s
    | .send k => sendPay (F := F) g.1.1 k
    | .other => iprop(emp))
  unfold barPay recvPay sendPay
  cases role g.2 with
  | bar => dsimp only; split <;> infer_instance
  | send k => dsimp only; infer_instance
  | recv s => dsimp only; infer_instance
  | other => dsimp only; infer_instance

section Sched
variable (c : Dev nD) (k : Fin 2) (s : Fin 31)

/-- The barrier expects both neighbours. -/
theorem duties_bar : (ringRd (F := F) m ρ).duties (barCell c) 0 = Finset.univ := by
  dsimp only [ringRd]; rw [if_pos rfl, role_bar]; rfl
/-- A receive semaphore expects one copy. -/
theorem duties_recv : (ringRd (F := F) m ρ).duties (recvCell c s) 0 = {false} := by
  dsimp only [ringRd]; rw [if_pos rfl, role_recv]; rfl
/-- A send semaphore expects one copy in each round that has a hop. -/
theorem duties_send {r : ℕ} (h : 2 * r + k.val < 31) : (ringRd (F := F) m ρ).duties (sendCell c k) r = {false} := by
  dsimp only [ringRd]; rw [if_pos rfl, role_send]; exact if_pos h
/-- The barrier expects nothing after its first round. -/
theorem duties_bar_later (r : ℕ) (h : 1 ≤ r) : (ringRd (F := F) m ρ).duties (barCell c) r = ∅ := by
  dsimp only [ringRd]; rw [if_pos rfl, role_bar]; exact if_neg (by omega)
/-- A receive semaphore expects nothing after its first round. -/
theorem duties_recv_later (r : ℕ) (h : 1 ≤ r) : (ringRd (F := F) m ρ).duties (recvCell c s) r = ∅ := by
  dsimp only [ringRd]; rw [if_pos rfl, role_recv]; exact if_neg (by omega)
/-- A send semaphore expects nothing in a round without a hop. -/
theorem duties_send_later (r : ℕ) (h : ¬ 2 * r + k.val < 31) : (ringRd (F := F) m ρ).duties (sendCell c k) r = ∅ := by
  dsimp only [ringRd]; rw [if_pos rfl, role_send]; exact if_neg h

/-- A barrier signal is one unit. -/
theorem amount_bar (r : ℕ) (d : Bool) : (ringRd (F := F) m ρ).amount (barCell c) r d = 1 := by dsimp only [ringRd]; rw [role_bar]
/-- A send semaphore's copy is `N` units. -/
theorem amount_send (r : ℕ) (d : Bool) : (ringRd (F := F) m ρ).amount (sendCell c k) r d = N := by dsimp only [ringRd]; rw [role_send]
/-- A receive semaphore's copy is `N` units. -/
theorem amount_recv (r : ℕ) (d : Bool) : (ringRd (F := F) m ρ).amount (recvCell c s) r d = N := by dsimp only [ringRd]; rw [role_recv]

/-- The barrier expects two units. -/
theorem expect_bar : (ringRd (F := F) m ρ).expect (barCell c) 0 = 2 := by
  unfold Schedule.expect Schedule.amountOf
  rw [duties_bar, Finset.sum_congr rfl fun d _ => amount_bar m ρ c 0 d, Finset.sum_const, Finset.card_univ, Fintype.card_bool, smul_eq_mul]
/-- A send semaphore expects `N` units in a round that has a hop. -/
theorem expect_send {r : ℕ} (h : 2 * r + k.val < 31) : (ringRd (F := F) m ρ).expect (sendCell c k) r = N := by
  unfold Schedule.expect Schedule.amountOf; rw [duties_send m ρ c k h, Finset.sum_singleton, amount_send]
/-- A receive semaphore expects `N` units. -/
theorem expect_recv : (ringRd (F := F) m ρ).expect (recvCell c s) 0 = N := by
  unfold Schedule.expect Schedule.amountOf; rw [duties_recv, Finset.sum_singleton, amount_recv]

/-- One of the two barrier signals hands over what `barPay` says. -/
theorem payload_bar_true (r : ℕ) : (ringRd (F := F) m ρ).payload (barCell c) r true = barPay c := by
  dsimp only [ringRd]; rw [role_bar]; rfl
/-- The other barrier signal hands over nothing. -/
theorem payload_bar_false (r : ℕ) : (ringRd (F := F) m ρ).payload (barCell c) r false = iprop(emp) := by
  dsimp only [ringRd]; rw [role_bar]; rfl
/-- A finished send hands back its slot. -/
theorem payload_send (r : ℕ) (d : Bool) : (ringRd (F := F) m ρ).payload (sendCell c k) r d = sendPay c k := by
  dsimp only [ringRd]; rw [role_send]
/-- A landing hands over its slot with its contents. -/
theorem payload_recv (r : ℕ) (d : Bool) : (ringRd (F := F) m ρ).payload (recvCell c s) r d = recvPay m ρ c s := by
  dsimp only [ringRd]; rw [role_recv]

/-- What the barrier wait hands over. -/
theorem rest_bar : bigSep ((ringRd (F := F) m ρ).duties (barCell c) 0 \ ∅) (fun d => (ringRd (F := F) m ρ).payload (barCell c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
/-- What a send wait hands back. -/
theorem rest_send {r : ℕ} (h : 2 * r + k.val < 31) :
    bigSep ((ringRd (F := F) m ρ).duties (sendCell c k) r \ ∅) (fun d => (ringRd (F := F) m ρ).payload (sendCell c k) r d) = sendPay c k := by
  rw [Finset.sdiff_empty, duties_send m ρ c k h, bigSep_singleton, payload_send]
/-- What a receive wait hands over. -/
theorem rest_recv : bigSep ((ringRd (F := F) m ρ).duties (recvCell c s) 0 \ ∅) (fun d => (ringRd (F := F) m ρ).payload (recvCell c s) 0 d)
    = recvPay m ρ c s := by
  rw [Finset.sdiff_empty, duties_recv, bigSep_singleton, payload_recv]

end Sched

/-! ## What a device owes; the levels -/

/-- The steps from `s` on, and those before. -/
abbrev todo (s : ℕ) : Finset (Fin 31) := Finset.univ.filter fun j => s ≤ j.val
abbrev past (s : ℕ) : Finset (Fin 31) := Finset.univ.filter fun j => j.val < s

/-- Before the first hop all the hops are to do. -/
theorem todo_zero : todo 0 = Finset.univ := Finset.filter_true_of_mem fun _ _ => Nat.zero_le _
/-- After the last hop none is to do. -/
theorem todo_end : todo 31 = ∅ := Finset.filter_false_of_mem fun j _ => by have := j.isLt; omega
/-- Before the first hop none is past. -/
theorem past_zero : past 0 = ∅ := Finset.filter_false_of_mem fun j _ => by omega
/-- After the last hop all are past. -/
theorem past_end : past 31 = Finset.univ := Finset.filter_true_of_mem fun j _ => j.isLt
/-- The hops to do are this one and the later ones. -/
theorem todo_step {s : ℕ} (h : s < 31) : todo s = insert ⟨s, h⟩ (todo (s + 1)) := by
  ext j; simp only [Finset.mem_filter, Finset.mem_univ, true_and, Finset.mem_insert, Fin.ext_iff]; omega
/-- A hop is not among the later ones. -/
theorem todo_fresh {s : ℕ} (h : s < 31) : (⟨s, h⟩ : Fin 31) ∉ todo (s + 1) := by
  simp only [Finset.mem_filter, Finset.mem_univ, true_and]; omega
/-- The hops past after this one are this one and the earlier ones. -/
theorem past_step {s : ℕ} (h : s < 31) : past (s + 1) = insert ⟨s, h⟩ (past s) := by
  ext j; simp only [Finset.mem_filter, Finset.mem_univ, true_and, Finset.mem_insert, Fin.ext_iff]; omega
/-- A hop is not among the earlier ones. -/
theorem past_fresh {s : ℕ} (h : s < 31) : (⟨s, h⟩ : Fin 31) ∉ past s := by
  simp only [Finset.mem_filter, Finset.mem_univ, true_and]; omega

/-- What device `c` owes its right neighbour's receive cells from step `s` on. -/
def Os (c : Dev nD) (s : ℕ) : CellTallies nD τ sig Unit := ∑ j ∈ todo s, tallyAt (recvCell (nxt c) j) () N
/-- What is owed before a hop is what is owed after it and its own copy. -/
theorem Os_step (c : Dev nD) {s : ℕ} (h : s < 31) : Os c s = Os c (s + 1) + tallyAt (recvCell (nxt c) ⟨s, h⟩) () N := by
  unfold Os; rw [todo_step h, Finset.sum_insert (todo_fresh h), add_comm]
/-- After the last hop nothing is owed. -/
theorem Os_end (c : Dev nD) : Os c 31 = 0 := by unfold Os; rw [todo_end, Finset.sum_empty]

def O₁ (c : Dev nD) : CellTallies nD τ sig Unit := Os c 0 + tallyAt (barCell (nxt c)) () 1
/-- What device `c` owes at launch: its copies and one signal to each neighbour. -/
def O₀ (c : Dev nD) : CellTallies nD τ sig Unit := O₁ c + tallyAt (barCell (prv c)) () 1

def L (g : GSem nD τ sig) : Finset Unit := if g.1.2 = .tc then {()} else ∅
/-- Receive cell `s` at level `s + 2`, barrier cells at 1, everything else at 0. -/
def lv (g : GSem nD τ sig) (_ : Unit) : ℕ := match role g.2 with
  | .bar => 1
  | .recv s => s.val + 2
  | _ => 0

/-- Only the first kind of thread has a cell with credit. -/
theorem L_of_ne (g : GSem nD τ sig) (h : g.1.2 ≠ .tc) : L g = ∅ := if_neg h
/-- Every cell of such a thread has one kind of credit. -/
theorem L_tc (c : Dev nD) (sm : SemLoc sig) : L ((c : Thread nD τ), sm) = {()} := if_pos rfl
/-- The level of the barrier. -/
theorem lv_bar (c : Dev nD) : lv (barCell c) () = 1 := by unfold lv; rw [role_bar]
/-- The level of a send semaphore. -/
theorem lv_send (c : Dev nD) (k : Fin 2) : lv (sendCell c k) () = 0 := by unfold lv; rw [role_send]
/-- The level of a receive semaphore: later hops are higher. -/
theorem lv_recv (c : Dev nD) (s : Fin 31) : lv (recvCell c s) () = s.val + 2 := by unfold lv; rw [role_recv]

/-- Whatever a device owes its copies for is a receive cell of a step still to come. -/
theorem Os_pos {c : Dev nD} {s : ℕ} {g : GSem nD τ sig} {u : Unit} (h : 0 < Os c s g u) :
    ∃ j : Fin 31, s ≤ j.val ∧ g = recvCell (nxt c) j := by
  by_contra hn
  refine absurd h (Nat.not_lt.mpr (Nat.le_of_eq ?_))
  unfold Os
  rw [Finset.sum_apply, Finsupp.finset_sum_apply]
  refine Finset.sum_eq_zero fun j hj => ?_
  rw [tallyAt_apply, if_neg fun h' => hn ⟨j, (Finset.mem_filter.mp hj).2, h'.1⟩]

/-- Whatever a device owes at launch: a receive cell, or one of the two neighbours' barrier cells. -/
theorem O₀_pos {c : Dev nD} {g : GSem nD τ sig} {u : Unit} (h : 0 < O₀ c g u) :
    (∃ j : Fin 31, g = recvCell (nxt c) j) ∨ g = barCell (nxt c) ∨ g = barCell (prv c) := by
  by_contra hn
  rw [not_or, not_or] at hn
  unfold O₀ O₁ at h
  rw [Pi.add_apply, Finsupp.add_apply, Pi.add_apply, Finsupp.add_apply, tallyAt_apply, tallyAt_apply,
    if_neg (fun h' => hn.2.1 h'.1), if_neg (fun h' => hn.2.2 h'.1), Nat.add_zero] at h
  obtain ⟨j, -, hj⟩ := Os_pos h
  exact hn.1 ⟨j, hj⟩

omit [FloatOps F] in
/-- A device may wait on a cell of its own below every receive cell still owed. -/
theorem mayWait_Os (c : Dev nD) (sm : SemLoc sig) (s : ℕ) (h : lv ((c : Thread nD τ), sm) () < s + 2) :
    (levAts L lv : sProp 𝕄) ⊢ MayWait (c : Thread nD τ) sm () (Os c s) :=
  MayOwe.of_cut (L := L) (lev := lv) (s + 1) (fun p hp => by rw [Finset.mem_singleton.mp hp, L_tc]; exact Finset.mem_singleton_self _)
    (fun g u hg => by obtain ⟨j, -, rfl⟩ := Os_pos hg; rw [L_tc]; exact Finset.mem_singleton_self _)
    (fun p hp => by rw [Finset.mem_singleton.mp hp]; exact Nat.lt_succ_iff.mp h)
    (fun g u hg => by obtain ⟨j, hj, rfl⟩ := Os_pos hg; rw [lv_recv]; omega)

omit [FloatOps F] in
/-- A staging wait is below everything owed at launch. -/
theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact Nat.le_of_eq hq)
      (fun g u hg => by
        rcases O₀_pos hg with ⟨j, rfl⟩ | rfl | rfl
        · rw [lv_recv]; omega
        · rw [lv_bar]; exact Nat.one_pos
        · rw [lv_bar]; exact Nat.one_pos)
  · rw [MayWait_zero]; iintro -; iempintro

abbrev 𝒱₀ : Variants := Variants.none

/-! ## The cells' records -/

/-- Every cell's invariant, under the names `K`, and that every cell has reached round 0. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

/-- One cell's invariant out of the records. -/
theorem inv_at (K : Dev nD × CK → ℕ) (ck : Dev nD × CK) :
    (records m ρ K : sProp 𝕄) ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold records; iintro ⟨H, -⟩; iapply h; iexact H
/-- One cell's first round out of the records. -/
theorem reached_at (K : Dev nD × CK → ℕ) (ck : Dev nD × CK) : (records m ρ K : sProp 𝕄) ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

end Cert.RingProof
-- ==== Proof.Hop.lean ====
/-
# One hop of the ring

A hop starts the copy of the device's partial sum to its right neighbour, takes the next product, and waits for the
copy out and for the left neighbour's partial sum. Here it is proved once, for a hop of any number.
-/
module

public import proofs.«01_k».proof.Proof.Plan

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots: element sets, reads and writes -/

/-- A receive slot's elements are its rectangle's. -/
theorem recv_set (s : Fin 31) : (recvM s).view.set = (rM.access (recvR s) : View sig .tc _ _ _).set :=
  View.set_reshape (v := (rM.access (recvR s) : View sig .tc _ _ _)) _
/-- A send slot's elements are its rectangle's. -/
theorem send_set (k : Fin 2) : (sendM k).view.set = (sM.access (sendR k) : View sig .tc _ _ _).set :=
  View.set_reshape (v := (sM.access (sendR k) : View sig .tc _ _ _)) _

omit [FloatOps F] in
/-- What a load of a receive slot reads, as a block, is what the slot holds. -/
theorem flat_recv (s : Fin 31) (f : (cc0_scratch2 : Ref sig .tc).ty.Contents (Elt F)) :
    flat ((rM.access (recvR s) : View sig .tc _ _ _).read (Elt F) f) = (recvM s).view.read (Elt F) f := rfl
omit [FloatOps F] in
/-- What a send slot holds is what a load of it reads, as a block. -/
theorem flat_send (k : Fin 2) (f : (cc0_scratch1 : Ref sig .tc).ty.Contents (Elt F)) :
    flat ((sM.access (sendR k) : View sig .tc _ _ _).read (Elt F) f) = (sendM k).view.read (Elt F) f := rfl

omit [FloatOps F] in
/-- Two written zeros are the offset that is zero everywhere. -/
theorem zeros : (![0, 0] : Fin 2 → Nat) = fun _ => 0 := funext fun a => by fin_cases a <;> rfl
omit [FloatOps F] in
/-- A load of the whole copy of `w`. -/
theorem read_b (f : (cc0_scratch0 : Ref sig .tc).ty.Contents (Elt F)) : bM.view.readAt (Elt F) wholeR.toLoadRect f = f :=
  Memref.readAt_unit_zero (Elt F) cc0_scratch0 zeros _ f

/-- A buffer whole on device `c`, at contents `f`. -/
abbrev full (c : Dev nD) (b : Ref sig .tc) (f : Buf (Elt F) ((c : Thread nD τ).loc b)) : sProp 𝕄 :=
  ((c : Thread nD τ).loc b) ↦{fullShare} f

/-! ## The hop -/

/-- What step `s` of device `c` uses up: its right neighbour's receive slot, the tokens of its send's two duties, the
    credit of its own receive and its position there. -/
def step (c : Dev nD) (s : Fin 31) : sProp 𝕄 :=
  iprop(anyOf (F := F) (nxt c) (recvM s) ∗ dutyTok ER (recvCell (nxt c) s) 0 false ∗ dutyTok ER (sendCell c (par s.val)) (s.val / 2) false
    ∗ cred (tallyAt (recvCell c s) () N) ∗ atPos ER (recvCell c s) 0 ∅ 0)

/-- What step `s` of device `c` leaves behind: its receive slot and its receive cell closed. -/
def spent (c : Dev nD) (s : Fin 31) : sProp 𝕄 := iprop(anyOf (F := F) c (recvM s) ∗ semVal (recvCell c s) 0)

/-- The place of step `s` on its send cell: at its round, which is reached. -/
def turn (c : Dev nD) (s : ℕ) : sProp 𝕄 :=
  iprop(atPos ER (sendCell c (par s)) (s / 2) ∅ 0 ∗ reached ER (sendCell c (par s)) (s / 2))

/-- What device `c` owes before step `s`. -/
def debt (c : Dev nD) (s : ℕ) : sProp 𝕄 := iprop(∃ W, owes (c : Thread nD τ) (Os c s) W)

/-- The send semaphore of hop `s` expects a copy in the round of hop `s`. -/
theorem duty_of_step {s : ℕ} (h : s < 31) : 2 * (s / 2) + (par s).val < 31 := by
  show 2 * (s / 2) + s % 2 < 31
  omega
/-- Two hops later the send slot is the same. -/
theorem par_two (s : ℕ) : par (s + 2) = par s := Fin.ext (Nat.add_mod_right s 2)
/-- Two hops later is one round later. -/
theorem half_two (s : ℕ) : (s + 2) / 2 = s / 2 + 1 := by omega

/-- The copy of step `s`, addressed to `n`, the right neighbour. -/
theorem wp_copy (K : Dev nD × CK → ℕ) (c n : Dev nD) (hn : n = nxt c) {s : ℕ} (h : s < 31)
    {hsc : (recvM ⟨s, h⟩ : Memref sig (Dev.tc n : Thread nD τ).2.kind .vmem S64x2048 .bf16).view.ref.isScScratch = false}
    {hsrc : (sendM (par s)).view.WordExact} {hdst : (recvM ⟨s, h⟩).view.WordExact}
    {hsem : DmaTarget.Typed .vmem (.dma (recvSem ⟨s, h⟩)) (.remote (Dev.tc n : Thread nD τ) (recvM ⟨s, h⟩) (.dma (sendSem (par s))) hsc)}
    {Q : PUnit → sProp 𝕄} {k : PUnit → Prog (TpuEff nD τ sig (Elt F) Λ₀ .tc) PUnit}
    (fs : Buf (Elt F) ((sendM (par s)).view.loc (c : Thread nD τ))) (hfs : (sendM (par s)).view.read (Elt F) fs = sent m ρ s c)
    (fd : Buf (Elt F) ((recvM ⟨s, h⟩).view.loc (nxt c : Thread nD τ))) (W : Waits sig Unit) :
    iprop(cellInv ER (ringRd m ρ) (K (c, .inr (.inl (par s)))) (sendCell c (par s))
        ∗ cellInv ER (ringRd m ρ) (K (nxt c, .inr (.inr ⟨s, h⟩))) (recvCell (nxt c) ⟨s, h⟩)
        ∗ pts c (sendM (par s)) fs ∗ pts (nxt c) (recvM ⟨s, h⟩) fd
        ∗ owes (c : Thread nD τ) (Os c s) W
        ∗ dutyTok ER (sendCell c (par s)) (s / 2) false ∗ reached ER (sendCell c (par s)) (s / 2)
        ∗ dutyTok ER (recvCell (nxt c) ⟨s, h⟩) 0 false ∗ reached ER (recvCell (nxt c) ⟨s, h⟩) 0)
      ⊢ iprop(((cred (tallyAt (sendCell c (par s)) () N) ∗ owes (c : Thread nD τ) (Os c (s + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM (par s)) (.remote (Dev.tc n : Thread nD τ) (recvM ⟨s, h⟩) (.dma (sendSem (par s))) hsc) (.dma (recvSem ⟨s, h⟩)) hsrc hdst hsem) k) Q) := by
  subst hn
  exact Rounds.wp_send_pointsTo 𝒱₀ ER (ringRd m ρ) (c : Thread nD τ) none (κ₁ := K (c, .inr (.inl (par s)))) (κ₂ := K (nxt c, .inr (.inr ⟨s, h⟩)))
    (r₁ := s / 2) (r₂ := 0) (d₁ := false) (d₂ := false) (fd := fd)
    (by rw [duties_send m ρ c (par s) (duty_of_step h)]; exact Finset.mem_singleton_self _) (by rw [duties_recv]; exact Finset.mem_singleton_self _)
    () () N (show (recvM ⟨s, h⟩).view.amount (.dma (recvSem ⟨s, h⟩)) = N from rfl) (amount_send m ρ c (par s) (s / 2) false) (amount_recv m ρ (nxt c) ⟨s, h⟩ 0 false) (Os c (s + 1)) (Os_step c h) (W := W)
    (by rw [payload_send]; unfold sendPay anyOf; iintro H; iexists fs; iexact H)
    (by
      rw [payload_recv]; unfold recvPay holds
      iintro H; iexists ((recvM ⟨s, h⟩).view.write (Elt F) fd ((sendM (par s)).view.read (Elt F) fs) Finset.univ)
      isplitr
      · ipureintro; rw [prv_nxt, ← hfs]; exact View.read_write_univ _ _
      · iexact H)

/-- Step `s`: from the slot to be sent, the step's resources and the debt, to the received partial sum and the next
    product, the slot back and the step's cell closed. -/
theorem wp_hop (K : Dev nD × CK → ℕ) (c : Dev nD) {s : ℕ} (h : s < 31)
    (k : FVec F S64x2048 .f32 → Vec F S1x64x2048 .bf16 → Prog (TpuEff nD τ sig (Elt F) Λ₀ .tc) PUnit) (Q : PUnit → sProp 𝕄) (R : sProp 𝕄)
    (hk : ∀ r : Vec F S1x64x2048 .bf16, flat r = sent m ρ s (prv c) →
      iprop((full c cc0_stg0_0 (xstg m ρ c) ∗ full c cc0_scratch0 (wb m ρ c) ∗ anyOf c (sendM (par s)) ∗ spent c ⟨s, h⟩ ∗ turn c (s + 2) ∗ debt c (s + 1)) ∗ R)
        ⊢ wp frame (wpE (defs₀ (F := F)) 𝒱₀ (c : Thread nD τ) none) Set.univ (k (part m ρ c s) r) Q) :
    iprop(records m ρ K ∗ levAts L lv
        ∗ (full c cc0_stg0_0 (xstg m ρ c) ∗ full c cc0_scratch0 (wb m ρ c) ∗ holds c (sendM (par s)) (sent m ρ s c) ∗ step c ⟨s, h⟩ ∗ turn c s ∗ debt c s) ∗ R)
      ⊢ wp frame (wpE (defs₀ (F := F)) 𝒱₀ (c : Thread nD τ) none) Set.univ (hop c ⟨s, h⟩ k) Q := by
  unfold hop holds step turn debt
  iintro ⟨#Hrec, #Hlev, ⟨Hx, Hw, ⟨%fs, %hfs, Hs⟩, ⟨Hany, HtR, HtS, HcR, HaR⟩, ⟨HaS, HrS⟩, ⟨%W, HO⟩⟩, HR⟩
  unfold anyOf
  icases Hany with ⟨%fd, Hd⟩
  ihave #HIs := (inv_at m ρ K (c, .inr (.inl (par s)))) $$ Hrec
  ihave #HIr := (inv_at m ρ K (c, .inr (.inr ⟨s, h⟩))) $$ Hrec
  ihave #HIn := (inv_at m ρ K (nxt c, .inr (.inr ⟨s, h⟩))) $$ Hrec
  ihave #Hr0 := (reached_at m ρ K (nxt c, .inr (.inr ⟨s, h⟩))) $$ Hrec
  -- the copy to the right neighbour
  iapply (wp_copy m ρ K c _ (dev3_eq c) h fs hfs fd W) $$ [Hs Hd HO HtS HrS HtR]
  · isplitr; · iexact HIs
    isplitr; · iexact HIn
    isplitl [Hs]; · iexact Hs
    isplitl [Hd]; · iexact Hd
    isplitl [HO]; · iexact HO
    isplitl [HtS]; · iexact HtS
    isplitl [HrS]; · iexact HrS
    isplitl [HtR]; · iexact HtR
    iexact Hr0
  iintro ⟨HcS, HO⟩
  -- the product's operands
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hw; iintro Hw
  rw [read_b]
  -- the wait for the copy out: the send slot back
  iapply (Rounds.wp_wait_rest_token 𝒱₀ ER (ringRd m ρ) (c : Thread nD τ) none (κ := K (c, .inr (.inl (par s))))
      (wpE_waitDma2_eq 𝒱₀ (c : Thread nD τ) none Set.univ) (Set.mem_univ _) () (O := Os c (s + 1)) (W := W) (R := s / 2) (m := 0) (T := ∅)
      (by rw [Nat.zero_add, expect_send m ρ c (par s) (duty_of_step h)]; exact credit_send _)) $$ [HcS HO HaS]
  · isplitr; · iexact HIs
    isplitl [HcS]; · iexact HcS
    isplitl [HO]; · iexact HO
    isplitr
    · iapply (mayWait_Os (F := F) c (.dma (sendSem (par s))) (s + 1) (by rw [lv_send]; omega)); iexact Hlev
    iexact HaS
  iintro ⟨HO, HaS, HrS, Hpay⟩
  ihave Hs := (Entails.of_eq (rest_send m ρ c (par s) (duty_of_step h))) $$ Hpay
  -- the wait for the copy in: the left neighbour's partial sum
  iapply (Rounds.wp_wait_rest_token 𝒱₀ ER (ringRd m ρ) (c : Thread nD τ) none (κ := K (c, .inr (.inr ⟨s, h⟩)))
      (wpE_waitDma2_eq 𝒱₀ (c : Thread nD τ) none Set.univ) (Set.mem_univ _) () (O := Os c (s + 1))
      (W := insert (SemLoc.dma (sendSem (par s)), ()) W) (R := 0) (m := 0) (T := ∅)
      (by rw [Nat.zero_add, expect_recv]; exact credit_recv _)) $$ [HcR HO HaR]
  · isplitr; · iexact HIr
    isplitl [HcR]; · iexact HcR
    isplitl [HO]; · iexact HO
    isplitr
    · iapply (mayWait_Os (F := F) c (.dma (recvSem ⟨s, h⟩)) (s + 1) (by rw [lv_recv]; show s + 2 < s + 1 + 2; omega)); iexact Hlev
    iexact HaR
  iintro ⟨HO, HaR, -, Hpay⟩
  ihave Hv := (Entails.of_eq (rest_recv m ρ c ⟨s, h⟩)) $$ Hpay
  unfold recvPay holds
  icases Hv with ⟨%fv, %hfv, Hv⟩
  imod (Rounds.cell_close ER (ringRd m ρ) (Set.mem_univ (K (c, .inr (.inr ⟨s, h⟩)))) (fun h => h) (R := 0 + 1) (duties_recv_later m ρ c ⟨s, h⟩)) $$ [HaR] with Hz
  · isplitr; · iexact HIr
    iexact HaR
  -- what came in
  iapply (wp_load_rect 𝒱₀ (c : Thread nD τ) none Set.univ (m := rM) (r := recvR ⟨s, h⟩) (S := (recvM ⟨s, h⟩).view.set) (f := fv)
    (by rw [recv_set])) $$ Hv
  iintro Hv
  have hp : k0_pay5 (xM.view.readAt (Elt F) (blkR c ⟨s, h⟩).toLoadRect (xstg m ρ c)) (wb m ρ c) = part m ρ c s := by
    unfold part; rw [slot_eq h]
  rw [hp]
  iapply (hk _ ((flat_recv ⟨s, h⟩ fv).trans hfv))
  isplitr [HR]
  · isplitl [Hx]; · iexact Hx
    isplitl [Hw]; · iexact Hw
    isplitl [Hs]; · unfold sendPay; iexact Hs
    isplitl [Hv Hz]
    · unfold spent anyOf
      isplitl [Hv]; · iexists fv; iexact Hv
      iexact Hz
    isplitl [HaS HrS]
    · unfold turn; rw [par_two, half_two]
      isplitl [HaS]; · iexact HaS
      iexact HrS
    unfold debt
    iexists (insert (SemLoc.dma (recvSem ⟨s, h⟩), ()) (insert (SemLoc.dma (sendSem (par s)), ()) W)); iexact HO
  · iexact HR

end Cert.RingProof
-- ==== Proof.Body.lean ====
/-
# The kernel's body

The thirty-one hops in a row by induction, the prologue before them, and the two together as what the launch asks of
the body on each device.
-/
module

public import proofs.«01_k».proof.Proof.Hop

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The stores -/

omit [FloatOps F] in
/-- A store to the whole output. -/
theorem write_o (f w : (cc0_stg2_0 : Ref sig .tc).ty.Contents (Elt F)) :
    (oM.access wholeR : View sig .tc _ _ _).write (Elt F) f w Finset.univ = w :=
  Memref.write_access_unit_zero_univ (Elt F) cc0_stg2_0 zeros _ f w
omit [FloatOps F] in
/-- A store to the whole copy of `w`. -/
theorem write_b (f w : (cc0_scratch0 : Ref sig .tc).ty.Contents (Elt F)) :
    (bM.access wholeR : View sig .tc _ _ _).write (Elt F) f w Finset.univ = w :=
  Memref.write_access_unit_zero_univ (Elt F) cc0_scratch0 zeros _ f w
omit [FloatOps F] in
/-- A load of the whole staged block of `w`. -/
theorem read_w (f : (cc0_stg1_0 : Ref sig .tc).ty.Contents (Elt F)) : wM.view.readAt (Elt F) wholeR.toLoadRect f = f :=
  Memref.readAt_unit_zero (Elt F) cc0_stg1_0 zeros _ f

/-- Filling a send slot. -/
theorem wp_put (c : Dev nD) (k : Fin 2) (v : FVec F S1x64x2048 .bf16) (rest : Prog (TpuEff nD τ sig (Elt F) Λ₀ .tc) PUnit)
    (Q : PUnit → sProp 𝕄) (R : sProp 𝕄)
    (hk : iprop(holds c (sendM k) (flat v) ∗ R) ⊢ wp frame (wpE (defs₀ (F := F)) 𝒱₀ (c : Thread nD τ) none) Set.univ rest Q) :
    iprop(anyOf c (sendM k) ∗ R) ⊢ wp frame (wpE (defs₀ (F := F)) 𝒱₀ (c : Thread nD τ) none) Set.univ (put k v rest) Q := by
  unfold put anyOf
  iintro ⟨⟨%f, Hs⟩, HR⟩
  iapply (wp_load_rect 𝒱₀ (c : Thread nD τ) none Set.univ (m := sM) (r := sendR k) (S := (sendM k).view.set) (f := f)
    (by rw [send_set])) $$ Hs
  iintro Hs
  iapply (wp_store 𝒱₀ (c : Thread nD τ) none Set.univ (m := sM) (r := sendR k) (Mk := Finset.univ) (S := (sendM k).view.set) (f := f)
    (by rw [send_set]; exact Finset.Subset.refl _)) $$ Hs
  iintro Hs
  iapply hk
  isplitl [Hs]
  · unfold holds
    iexists ((sM.access (sendR k) : View sig .tc _ _ _).write (Elt F) f v Finset.univ)
    isplitr
    · ipureintro; rw [← flat_send, View.read_write_univ]
    · iexact Hs
  · iexact HR

/-- Storing the result. -/
theorem wp_finish (c : Dev nD) (v : FVec F S64x2048 .f32) (Q : PUnit → sProp 𝕄) (R : sProp 𝕄)
    (hk : iprop(full c cc0_stg2_0 v ∗ R) ⊢ Q ⟨⟩) :
    iprop((∃ f, full (F := F) c cc0_stg2_0 f) ∗ R) ⊢ wp frame (wpE (defs₀ (F := F)) 𝒱₀ (c : Thread nD τ) none) Set.univ (finish v) Q := by
  unfold finish
  iintro ⟨⟨%f, Ho⟩, HR⟩
  iapply (wp_load 𝒱₀ (c : Thread nD τ) none Set.univ (m := oM) (Finset.subset_univ _)) $$ Ho; iintro Ho
  iapply (wp_store 𝒱₀ (c : Thread nD τ) none Set.univ (m := oM) (r := wholeR) (Mk := Finset.univ) (Finset.subset_univ _)) $$ Ho; iintro Ho
  rw [write_o, wp_ret]; imodintro
  iapply hk
  isplitl [Ho]; · iexact Ho
  iexact HR

/-! ## The hops -/

/-- What device `c` holds before step `s`. -/
def before (c : Dev nD) (s : ℕ) : sProp 𝕄 :=
  iprop(full c cc0_stg0_0 (xstg m ρ c) ∗ full c cc0_scratch0 (wb m ρ c) ∗ (∃ f, full (F := F) c cc0_stg2_0 f)
    ∗ holds c (sendM (par s)) (sent m ρ s c) ∗ anyOf c (sendM (par (s + 1)))
    ∗ bigSep (todo s) (step c) ∗ bigSep (past s) (spent c) ∗ turn c s ∗ turn c (s + 1) ∗ debt c s)

/-- What device `c` holds after the last step: the result, every slot and every copy's cell closed. -/
def after (c : Dev nD) : sProp 𝕄 :=
  iprop(full c cc0_stg0_0 (xstg m ρ c) ∗ full c cc0_scratch0 (wb m ρ c) ∗ full c cc0_stg2_0 (outAt m ρ c)
    ∗ anyOf c (sendM 0) ∗ anyOf c (sendM 1) ∗ bigSep Finset.univ (spent c) ∗ semVal (sendCell c 0) 0 ∗ semVal (sendCell c 1) 0
    ∗ ∃ W, owes (c : Thread nD τ) 0 W)

/-- Step `s` taken off the steps to come. -/
theorem todo_split (c : Dev nD) {s : ℕ} (h : s < 31) :
    (bigSep (todo s) (step c) : sProp 𝕄) = iprop(step c ⟨s, h⟩ ∗ bigSep (todo (s + 1)) (step c)) := by
  rw [todo_step h, bigSep_insert (todo_fresh h)]; rfl
/-- Step `s` added to the steps done. -/
theorem past_join (c : Dev nD) {s : ℕ} (h : s < 31) :
    (bigSep (past (s + 1)) (spent c) : sProp 𝕄) = iprop(spent c ⟨s, h⟩ ∗ bigSep (past s) (spent c)) := by
  rw [past_step h, bigSep_insert (past_fresh h)]; rfl

/-- The hops from step `s` on. -/
theorem wp_hops (K : Dev nD × CK → ℕ) (c : Dev nD) (Q : PUnit → sProp 𝕄) (R : sProp 𝕄) (hk : iprop(after m ρ c ∗ R) ⊢ Q ⟨⟩) :
    ∀ (n s : ℕ) (h : s + n = 30),
      iprop(records m ρ K ∗ levAts L lv ∗ before m ρ c s ∗ R)
        ⊢ wp frame (wpE (defs₀ (F := F)) 𝒱₀ (c : Thread nD τ) none) Set.univ (hops c n s h) Q
  | 0, s, h => by
    obtain rfl : s = 30 := h
    have hs : 30 < 31 := by decide
    show _ ⊢ wp frame (wpE (defs₀ (F := F)) 𝒱₀ (c : Thread nD τ) none) Set.univ (hop c ⟨30, hs⟩ fun p r => finish (k0_pay1 p r)) Q
    unfold before
    rw [todo_split c hs]
    iintro ⟨#Hrec, #Hlev, ⟨Hx, Hw, Ho, Hs, Ha, ⟨Hst, -⟩, Hpast, Ht, Ht', HO⟩, HR⟩
    iapply (wp_hop m ρ K c hs (fun p r => finish (k0_pay1 p r)) Q
      iprop(records m ρ K ∗ (∃ f, full (F := F) c cc0_stg2_0 f) ∗ anyOf c (sendM (par (30 + 1))) ∗ bigSep (past 30) (spent c) ∗ turn c (30 + 1) ∗ R) ?hop)
    case hop =>
      intro r hr
      rw [pay1_eq, hr]
      iintro ⟨⟨Hx, Hw, Hs, Hsp, Ht, HO⟩, #Hrec, Ho, Ha, Hpast, Ht', HR⟩
      unfold turn debt
      icases Ht with ⟨Ht, -⟩
      icases Ht' with ⟨Ht', -⟩
      ihave #HI0 := (inv_at m ρ K (c, .inr (.inl (par (30 + 2))))) $$ Hrec
      ihave #HI1 := (inv_at m ρ K (c, .inr (.inl (par (30 + 1))))) $$ Hrec
      imod (Rounds.cell_close ER (ringRd m ρ) (Set.mem_univ (K (c, .inr (.inl (par (30 + 2)))))) (fun h => h) (R := (30 + 2) / 2)
        (fun r hr => duties_send_later m ρ c (par (30 + 2)) r (by omega))) $$ [Ht] with Hz0
      · isplitr; · iexact HI0
        iexact Ht
      imod (Rounds.cell_close ER (ringRd m ρ) (Set.mem_univ (K (c, .inr (.inl (par (30 + 1)))))) (fun h => h) (R := (30 + 1) / 2)
        (fun r hr => duties_send_later m ρ c (par (30 + 1)) r (by show ¬ 2 * r + 1 < 31; omega))) $$ [Ht'] with Hz1
      · isplitr; · iexact HI1
        iexact Ht'
      iapply (wp_finish c _ Q iprop(full c cc0_stg0_0 (xstg m ρ c) ∗ full c cc0_scratch0 (wb m ρ c)
        ∗ anyOf c (sendM 0) ∗ anyOf c (sendM 1) ∗ bigSep Finset.univ (spent c) ∗ semVal (sendCell c 0) 0 ∗ semVal (sendCell c 1) 0
        ∗ (∃ W, owes (c : Thread nD τ) 0 W) ∗ R) ?fin)
      case fin =>
        iintro ⟨Ho, Hx, Hw, Hs, Ha, Hsp, Hz0, Hz1, HO, HR⟩
        iapply hk
        isplitr [HR]
        · unfold after
          isplitl [Hx]; · iexact Hx
          isplitl [Hw]; · iexact Hw
          isplitl [Ho]; · iexact Ho
          isplitl [Hs]; · iexact Hs
          isplitl [Ha]; · iexact Ha
          isplitl [Hsp]; · iexact Hsp
          isplitl [Hz0]; · iexact Hz0
          isplitl [Hz1]; · iexact Hz1
          iexact HO
        · iexact HR
      isplitl [Ho]; · iexact Ho
      isplitl [Hx]; · iexact Hx
      isplitl [Hw]; · iexact Hw
      isplitl [Hs]; · iexact Hs
      isplitl [Ha]; · iexact Ha
      isplitl [Hsp Hpast]
      · rw [← past_end, past_join c hs]
        isplitl [Hsp]; · iexact Hsp
        iexact Hpast
      isplitl [Hz0]; · iexact Hz0
      isplitl [Hz1]; · iexact Hz1
      isplitl [HO]; · rw [← Os_end c]; iexact HO
      iexact HR
    isplitr; · iexact Hrec
    isplitr; · iexact Hlev
    isplitl [Hx Hw Hs Hst Ht HO]
    · isplitl [Hx]; · iexact Hx
      isplitl [Hw]; · iexact Hw
      isplitl [Hs]; · iexact Hs
      isplitl [Hst]; · iexact Hst
      isplitl [Ht]; · iexact Ht
      iexact HO
    isplitr; · iexact Hrec
    isplitl [Ho]; · iexact Ho
    isplitl [Ha]; · iexact Ha
    isplitl [Hpast]; · iexact Hpast
    isplitl [Ht']; · iexact Ht'
    iexact HR
  | n + 1, s, h => by
    have hs : s < 31 := by omega
    have hn : s + 1 + n = 30 := by omega
    show _ ⊢ wp frame (wpE (defs₀ (F := F)) 𝒱₀ (c : Thread nD τ) none) Set.univ
      (hop c ⟨s, hs⟩ fun p r => put (par (s + 1)) (k0_pay6 p r) (hops c n (s + 1) hn)) Q
    unfold before
    rw [todo_split c hs]
    iintro ⟨#Hrec, #Hlev, ⟨Hx, Hw, Ho, Hs, Ha, ⟨Hst, Htodo⟩, Hpast, Ht, Ht', HO⟩, HR⟩
    iapply (wp_hop m ρ K c hs (fun p r => put (par (s + 1)) (k0_pay6 p r) (hops c n (s + 1) hn)) Q
      iprop(records m ρ K ∗ levAts L lv ∗ (∃ f, full (F := F) c cc0_stg2_0 f) ∗ anyOf c (sendM (par (s + 1))) ∗ bigSep (todo (s + 1)) (step c)
        ∗ bigSep (past s) (spent c) ∗ turn c (s + 1) ∗ R) ?hop)
    case hop =>
      intro r hr
      iintro ⟨⟨Hx, Hw, Hs, Hsp, Ht, HO⟩, #Hrec, #Hlev, Ho, Ha, Htodo, Hpast, Ht', HR⟩
      iapply (wp_put c (par (s + 1)) _ _ Q iprop(records m ρ K ∗ levAts L lv
        ∗ (full c cc0_stg0_0 (xstg m ρ c) ∗ full c cc0_scratch0 (wb m ρ c) ∗ (∃ f, full (F := F) c cc0_stg2_0 f)
          ∗ anyOf c (sendM (par s)) ∗ bigSep (todo (s + 1)) (step c) ∗ bigSep (past (s + 1)) (spent c) ∗ turn c (s + 1) ∗ turn c (s + 2) ∗ debt c (s + 1)) ∗ R) ?put)
      case put =>
        rw [pay6_eq, hr]
        iintro ⟨Hs', #Hrec, #Hlev, ⟨Hx, Hw, Ho, Hs, Htodo, Hpast, Ht', Ht, HO⟩, HR⟩
        iapply (wp_hops K c Q R hk n (s + 1) hn)
        isplitr; · iexact Hrec
        isplitr; · iexact Hlev
        isplitr [HR]
        · unfold before
          isplitl [Hx]; · iexact Hx
          isplitl [Hw]; · iexact Hw
          isplitl [Ho]; · iexact Ho
          isplitl [Hs']; · iexact Hs'
          isplitl [Hs]; · rw [show par (s + 1 + 1) = par s from par_two s]; iexact Hs
          isplitl [Htodo]; · iexact Htodo
          isplitl [Hpast]; · iexact Hpast
          isplitl [Ht']; · iexact Ht'
          isplitl [Ht]; · iexact Ht
          iexact HO
        · iexact HR
      isplitl [Ha]; · iexact Ha
      isplitr; · iexact Hrec
      isplitr; · iexact Hlev
      isplitr [HR]
      · isplitl [Hx]; · iexact Hx
        isplitl [Hw]; · iexact Hw
        isplitl [Ho]; · iexact Ho
        isplitl [Hs]; · iexact Hs
        isplitl [Htodo]; · iexact Htodo
        isplitl [Hsp Hpast]
        · rw [past_join c hs]
          isplitl [Hsp]; · iexact Hsp
          iexact Hpast
        isplitl [Ht']; · iexact Ht'
        isplitl [Ht]; · iexact Ht
        iexact HO
      · iexact HR
    isplitr; · iexact Hrec
    isplitr; · iexact Hlev
    isplitl [Hx Hw Hs Hst Ht HO]
    · isplitl [Hx]; · iexact Hx
      isplitl [Hw]; · iexact Hw
      isplitl [Hs]; · iexact Hs
      isplitl [Hst]; · iexact Hst
      isplitl [Ht]; · iexact Ht
      iexact HO
    isplitr; · iexact Hrec
    isplitr; · iexact Hlev
    isplitl [Ho]; · iexact Ho
    isplitl [Ha]; · iexact Ha
    isplitl [Htodo]; · iexact Htodo
    isplitl [Hpast]; · iexact Hpast
    isplitl [Ht']; · iexact Ht'
    iexact HR

/-! ## What the launch hands a device -/

/-- The tokens of the duties device `c` pays: one signal to each neighbour, its sends, its copies into its right neighbour. -/
def payToks (c : Dev nD) : sProp 𝕄 :=
  iprop(dutyTok ER (barCell (nxt c)) 0 false ∗ dutyTok ER (barCell (prv c)) 0 true
    ∗ (bigSep Finset.univ fun s : Fin 31 => dutyTok ER (sendCell c (par s.val)) (s.val / 2) false)
    ∗ bigSep Finset.univ fun s : Fin 31 => dutyTok ER (recvCell (nxt c) s) 0 false)

/-- Device `c`'s positions on its own cells and its tokens. -/
def linear (c : Dev nD) : sProp 𝕄 :=
  iprop((bigSep Finset.univ fun k : CK => atPos ER (kcell (c, k)) 0 ∅ 0) ∗ payToks c)

/-- What device `c` starts from: the records, its positions and tokens, its credit and the levels. -/
def start (c : Dev nD) : sProp 𝕄 :=
  iprop((∃ K, records m ρ K ∗ linear c) ∗ cred (tallyAt (barCell c) () 2)
    ∗ (bigSep Finset.univ fun s : Fin 31 => cred (tallyAt (recvCell c s) () N)) ∗ levAts L lv)

/-- The scratch buffers, the send and receive buffers slot by slot. -/
def scratch (c : Dev nD) : sProp 𝕄 :=
  iprop((∃ f, full (F := F) c cc0_scratch0 f) ∗ (anyOf c (sendM 0) ∗ anyOf c (sendM 1)) ∗ bigSep Finset.univ fun s : Fin 31 => anyOf (F := F) c (recvM s))

def Φ₀ (c : Dev nD) : sProp 𝕄 := iprop(start m ρ c ∗ scratch c)
/-- After the body: the scratch buffers, and every cell closed at zero. -/
def Φ₁ (c : Dev nD) : sProp 𝕄 :=
  iprop((∃ f, full (F := F) c cc0_scratch0 f) ∗ (anyOf c (sendM 0) ∗ anyOf c (sendM 1)) ∗ bigSep Finset.univ (spent c)
    ∗ (semVal (sendCell c 0) 0 ∗ semVal (sendCell c 1) 0) ∗ semVal (barCell c) 0)

/-- The region has one grid point. -/
theorem cfg0_N : cfg0.N = 1 := by decide
def t₀ : Fin cfg0.N := ⟨0, by rw [cfg0_N]; decide⟩
/-- So every grid point is that one. -/
theorem fin_N (t : Fin cfg0.N) : t = t₀ := by
  obtain ⟨t, ht⟩ := t; have := cfg0_N; exact Fin.ext (by simp only [t₀]; omega)

/-- The pipeline's proof data: the inputs stay, the output window holds the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- `x` is fetched at the grid point. -/
theorem fetch_x (t : Fin cfg0.N) : (cfg0.win (0 : Fin 3)).fetch t = true := by rw [fin_N t]; rfl
/-- `w` is fetched at the grid point. -/
theorem fetch_w (t : Fin cfg0.N) : (cfg0.win (1 : Fin 3)).fetch t = true := by rw [fin_N t]; rfl

omit [FloatOps F] in
/-- A whole buffer owned at `X`, as its elements held. -/
theorem owns_full (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ full c b f) := by
  unfold owns; simp only [Memref.view_whole, View.read_whole, View.set_whole]

/-! ## The whole body -/

abbrev stg (c : Dev nD) (b : Ref sig .tc) (X : b.ty.Contents (Elt F)) : sProp 𝕄 :=
  iprop(∃ f : Buf (Elt F) (((c : Dev nD) : Thread nD τ).loc b), ⌜f = X⌝ ∗ full c b f)

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c)
    ∗ stg c cc0_stg2_0 (outAt m ρ c))

/-- Every step's resources, from what the launch and the barrier handed over. -/
theorem steps_intro (c : Dev nD) :
    iprop(barPay c ∗ (bigSep Finset.univ fun s : Fin 31 => dutyTok ER (recvCell (nxt c) s) 0 false)
        ∗ (bigSep Finset.univ fun s : Fin 31 => dutyTok ER (sendCell c (par s.val)) (s.val / 2) false)
        ∗ (bigSep Finset.univ fun s : Fin 31 => cred (tallyAt (recvCell c s) () N))
        ∗ (bigSep Finset.univ fun s : Fin 31 => atPos ER (recvCell c s) 0 ∅ 0))
      ⊢ (bigSep (todo 0) (step c) : sProp 𝕄) := by
  rw [todo_zero]; unfold step barPay
  rw [bigSep_sep', bigSep_sep', bigSep_sep', bigSep_sep']

/-- A device's positions, cell by cell. -/
theorem at_split (c : Dev nD) : (bigSep Finset.univ fun k : CK => atPos ER (kcell (c, k)) 0 ∅ 0)
    ⊢ (iprop(atPos ER (barCell c) 0 ∅ 0 ∗ (atPos ER (sendCell c 0) 0 ∅ 0 ∗ atPos ER (sendCell c 1) 0 ∅ 0)
        ∗ bigSep Finset.univ fun s : Fin 31 => atPos ER (recvCell c s) 0 ∅ 0) : sProp 𝕄) := by
  rw [bigSep_univ_sum, bigSep_univ_sum, bigSep_univ_eq_bigSepL [()] (by decide) (by decide),
    bigSep_univ_eq_bigSepL [(0 : Fin 2), 1] (by decide) (by decide)]
  exact Entails.rfl

set_option maxHeartbeats 800000 in
/-- The body: the handshake with both neighbours, the copy of `w`, the first block, the hops. -/
theorem wp_body (c : Dev nD) (Kt : PUnit → sProp 𝕄) :
    iprop(bodyPre m ρ c ∗ (bodyPost m ρ c -∗ Kt ⟨⟩))
      ⊢ wp frame (wpE (defs₀ (F := F)) 𝒱₀ c none) Set.univ loopBody Kt := by
  unfold loopBody
  rw [wp_deviceId]
  unfold bodyPre Φ₀ start scratch linear payToks
  iintro ⟨⟨⟨⟨⟨%K, #Hrec, Hat, HtBN, HtBP, HtS, HtR⟩, HcB, HcR, #Hlev⟩, ⟨%fb, Hb⟩, ⟨Hs0, Hs1⟩, Hrecv⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_x t₀)]; rfl
  have hw : g1 = wstg m ρ c := by rw [hg1]; unfold Dat.before; rw [if_pos (fetch_w t₀)]; rfl
  subst hx hw
  unfold Dat.owesAt Pipeline.owesWithin
  icases Ho with ⟨%W, %hW, HO⟩
  rw [show (dats m ρ 0 c).owed t₀.castSucc = O₁ c + tallyAt (barCell (prv c)) () 1 from rfl]
  rw [dev1_eq c, dev2_eq c]
  ihave Hat := (at_split (F := F) c) $$ Hat
  icases Hat with ⟨HaB, ⟨HaS0, HaS1⟩, HaR⟩
  ihave #HIbar := (inv_at m ρ K (c, .inl ())) $$ Hrec
  ihave #HIbN := (inv_at m ρ K (nxt c, .inl ())) $$ Hrec
  ihave #HIbP := (inv_at m ρ K (prv c, .inl ())) $$ Hrec
  ihave #HrBN := (reached_at m ρ K (nxt c, .inl ())) $$ Hrec
  ihave #HrBP := (reached_at m ρ K (prv c, .inl ())) $$ Hrec
  -- the signal to the left neighbour: the receive buffer goes with it
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) 0 true).trans (by decide)) () (O₁ c) rfl)
    $$ [HO HtBP Hrecv]
  · isplitr; · iexact HIbP
    isplitl [HO]; · iexact HO
    isplitl [HtBP]; · iexact HtBP
    isplitl [Hrecv]
    · rw [payload_bar_true]; unfold barPay; rw [nxt_prv]; iexact Hrecv
    · iexact HrBP
  iintro HO
  -- the signal to the right neighbour
  unfold O₁
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) 0 false).trans (by decide)) () (Os c 0) rfl)
    $$ [HO HtBN]
  · isplitr; · iexact HIbN
    isplitl [HO]; · iexact HO
    isplitl [HtBN]; · iexact HtBN
    isplitr; · rw [payload_bar_false]; iempintro
    iexact HrBN
  iintro HO
  -- the wait for both neighbours: the right neighbour's receive buffer comes with it
  iapply (Rounds.wp_wait_rest_token 𝒱₀ ER (ringRd m ρ) (c : Thread nD τ) none (κ := K (c, .inl ()))
      (wpE_semWait_eq 𝒱₀ (c : Thread nD τ) none Set.univ) (Set.mem_univ _) () (O := Os c 0) (W := W) (R := 0) (m := 0) (T := ∅)
      (by rw [expect_bar]; decide)) $$ [HcB HO HaB]
  · isplitr; · iexact HIbar
    isplitl [HcB]; · iexact HcB
    isplitl [HO]; · iexact HO
    isplitr
    · iapply (mayWait_Os (F := F) c (.reg barS) 0 (by rw [lv_bar]; decide)); iexact Hlev
    iexact HaB
  iintro ⟨HO, HaB, -, Hpay⟩
  ihave Hp := (Entails.of_eq (rest_bar m ρ c)) $$ Hpay
  icases Hp with ⟨-, Hnx⟩
  imod (Rounds.cell_close ER (ringRd m ρ) (Set.mem_univ (K (c, .inl ()))) (fun h => h) (R := 0 + 1) (duties_bar_later m ρ c)) $$ [HaB] with HzB
  · isplitr; · iexact HIbar
    iexact HaB
  -- the copy of `w`
  iapply (wp_load 𝒱₀ (c : Thread nD τ) none Set.univ (m := wM) (Finset.subset_univ _)) $$ Hw; iintro Hw
  rw [read_w]
  iapply (wp_load 𝒱₀ (c : Thread nD τ) none Set.univ (m := bM) (Finset.subset_univ _)) $$ Hb; iintro Hb
  iapply (wp_store 𝒱₀ (c : Thread nD τ) none Set.univ (m := bM) (r := wholeR) (Mk := Finset.univ) (Finset.subset_univ _)) $$ Hb; iintro Hb
  rw [write_b]
  -- the first block
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  rw [read_b]
  iapply (wp_put c 0 _ _ Kt iprop(records m ρ K ∗ levAts L lv
    ∗ (full c cc0_stg0_0 (xstg m ρ c) ∗ full c cc0_scratch0 (wb m ρ c) ∗ (∃ f, full (F := F) c cc0_stg2_0 f)
      ∗ anyOf c (sendM (par (0 + 1))) ∗ bigSep (todo 0) (step c) ∗ bigSep (past 0) (spent c) ∗ turn c 0 ∗ turn c (0 + 1) ∗ debt c 0)
    ∗ (full c cc0_stg1_0 (wstg m ρ c) ∗ semVal (barCell c) 0 ∗ (bodyPost m ρ c -∗ Kt ⟨⟩))) ?put)
  case put =>
    rw [pay4_eq]
    iintro ⟨Hs, #Hrec, #Hlev, ⟨Hx, Hb, Ho, Ha, Htodo, Hpast, Ht, Ht', HO⟩, HR⟩
    iapply (wp_hops m ρ K c Kt iprop(full c cc0_stg1_0 (wstg m ρ c) ∗ semVal (barCell c) 0 ∗ (bodyPost m ρ c -∗ Kt ⟨⟩)) ?fin 30 0 rfl)
    case fin =>
      unfold after
      iintro ⟨⟨Hx, Hb, Ho, Hs0, Hs1, Hsp, Hz0, Hz1, ⟨%W', HO⟩⟩, Hw, HzB, Hk⟩
      iapply Hk
      unfold bodyPost Φ₁ Dat.owesAt Pipeline.owesWithin
      rw [show (dats m ρ 0 c).owed t₀.succ = 0 from rfl]
      isplitl [Hb Hs0 Hs1 Hsp Hz0 Hz1 HzB]
      · isplitl [Hb]; · iexists _; iexact Hb
        isplitl [Hs0 Hs1]
        · isplitl [Hs0]; · iexact Hs0
          iexact Hs1
        isplitl [Hsp]; · iexact Hsp
        isplitl [Hz0 Hz1]
        · isplitl [Hz0]; · iexact Hz0
          iexact Hz1
        iexact HzB
      isplitl [HO]
      · iexists W'
        isplitr; · ipureintro; exact fun _ _ => Or.inl trivial
        iexact HO
      isplitl [Hx]
      · iexists _; isplitr; · (ipureintro; rfl)
        iexact Hx
      isplitl [Hw]
      · iexists _; isplitr; · (ipureintro; rfl)
        iexact Hw
      iexists _; isplitr; · (ipureintro; rfl)
      iexact Ho
    isplitr; · iexact Hrec
    isplitr; · iexact Hlev
    isplitr [HR]
    · unfold before
      isplitl [Hx]; · iexact Hx
      isplitl [Hb]; · iexact Hb
      isplitl [Ho]; · iexact Ho
      isplitl [Hs]; · iexact Hs
      isplitl [Ha]; · iexact Ha
      isplitl [Htodo]; · iexact Htodo
      isplitl [Hpast]; · iexact Hpast
      isplitl [Ht]; · iexact Ht
      isplitl [Ht']; · iexact Ht'
      iexact HO
    · iexact HR
  isplitl [Hs0]; · iexact Hs0
  isplitr; · iexact Hrec
  isplitr; · iexact Hlev
  isplitr [Hw HzB Hk]
  · isplitl [Hx]; · iexact Hx
    isplitl [Hb]; · iexact Hb
    isplitl [Hout]; · iexists g2; iexact Hout
    isplitl [Hs1]; · iexact Hs1
    isplitl [Hnx HtR HtS HcR HaR]
    · iapply (steps_intro (F := F) c)
      isplitl [Hnx]; · iexact Hnx
      isplitl [HtR]; · iexact HtR
      isplitl [HtS]; · iexact HtS
      isplitl [HcR]; · iexact HcR
      iexact HaR
    isplitr; · rw [past_zero, bigSep_empty]; iempintro
    isplitl [HaS0]
    · unfold turn
      isplitl [HaS0]; · iexact HaS0
      iapply (reached_at m ρ K (c, .inr (.inl 0))); iexact Hrec
    isplitl [HaS1]
    · unfold turn
      isplitl [HaS1]; · iexact HaS1
      iapply (reached_at m ρ K (c, .inr (.inl 1))); iexact Hrec
    unfold debt; iexists _; iexact HO
  · isplitl [Hw]; · iexact Hw
    isplitl [HzB]; · iexact HzB
    iexact Hk

/-- What the launch asks of the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_full]
  show bodyPre m ρ c ⊢ wp frame (wpE (defs₀ (F := F)) 𝒱₀ c none) Set.univ
    (cc0_body (F := F) xM (Memref.isWhole_whole _) wM (Memref.isWhole_whole _) oM (Memref.isWhole_whole _) bM (Memref.isWhole_whole _)
      sM (Memref.isWhole_whole _) rM (Memref.isWhole_whole _) cc0_scratch3 cc0_scratch4) (fun _ => bodyPost m ρ c)
  rw [cc0_body_eq_loop]
  iintro H
  iapply (wp_body m ρ c fun _ => bodyPost m ρ c)
  isplitl [H]; · iexact H
  iintro H; iexact H

end Cert.RingProof
-- ==== Proof.Launch.lean ====
/-
# The launch

The launch deals each device the positions and tokens of its own cells; the tokens are then dealt around the ring so
that every device holds those of the duties it pays, and the launch credit is read off what the neighbours owe. Then
the run of the whole program, for any float values.
-/
module

public import proofs.«01_k».proof.Proof.Body
public import Idealize.ShloMosaic.Lib.Pipeline.Regions
public import Idealize.ShloMosaic.Lib.Pipeline.CollectiveSegs

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores are scoped, distinct, and no staging semaphore. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- A cell's role. -/
def roleOf : CK → Role
  | .inl _ => .bar
  | .inr (.inl k) => .send k
  | .inr (.inr s) => .recv s
/-- A cell's role is its semaphore's. -/
theorem role_csem (k : CK) : role (csem k) = roleOf k := match k with
  | .inl _ => role_bar
  | .inr (.inl k) => role_send k
  | .inr (.inr s) => role_recv s
/-- Different cells of a device have different roles. -/
theorem roleOf_injective : Function.Injective roleOf := by
  rintro (_ | k | s) (_ | k' | s') h <;> first | rfl | exact Role.noConfusion h | (cases h; rfl)

/-- Distinct cells of the ring are distinct. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := roleOf_injective (by rw [← role_csem k, ← role_csem k']; exact congrArg (fun g : GSem nD τ sig => role g.2) h)
  rw [h1, h2]
def ringCells : Finset (GSem nD τ sig) := Finset.univ.map ⟨kcell, kcell_injective⟩

/-- Which duty of a device's own cells: one of the barrier's two, the send of a step, the receive of a step. -/
abbrev TK : Type := Bool ⊕ (Fin 31 ⊕ Fin 31)
/-- The duty's cell and round. -/
def tokAt : TK → CK × ℕ × Bool
  | .inl b => (.inl (), 0, b)
  | .inr (.inl s) => (.inr (.inl (par s.val)), s.val / 2, false)
  | .inr (.inr s) => (.inr (.inr s), 0, false)
abbrev tokOf (cj : Dev nD × TK) : GSem nD τ sig × ℕ × Bool := (kcell (cj.1, (tokAt cj.2).1), (tokAt cj.2).2)
/-- Distinct duties have distinct cells or rounds. -/
theorem tokAt_injective : Function.Injective tokAt := by
  rintro (b | s | s) (b' | s' | s') h <;> simp only [tokAt, Prod.mk.injEq, reduceCtorEq, Sum.inr.injEq, Sum.inl.injEq, false_and, true_and, and_true] at h
  · rw [h]
  · obtain ⟨h1, h2⟩ := h
    have h3 : s.val % 2 = s'.val % 2 := congrArg Fin.val h1
    exact congrArg (fun x => Sum.inr (Sum.inl x)) (Fin.ext (by omega))
  · rw [h]
/-- Different duties have different tokens. -/
theorem tokOf_injective : Function.Injective (tokOf : Dev nD × TK → GSem nD τ sig × ℕ × Bool) := by
  rintro ⟨c, j⟩ ⟨c', j'⟩ h
  have h1 := kcell_injective (congrArg Prod.fst h)
  have h2 : (tokAt j).2 = (tokAt j').2 := congrArg (fun x : GSem nD τ sig × ℕ × Bool => x.2) h
  have h3 : tokAt j = tokAt j' := Prod.ext (congrArg Prod.snd h1) h2
  rw [show c = c' from congrArg Prod.fst h1, tokAt_injective h3]
def ringToks : Finset (GSem nD τ sig × ℕ × Bool) := Finset.univ.map ⟨tokOf, tokOf_injective⟩

/-- The launch's ghost element: the pipeline's and the ring's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun s : Fin 31 => dutyTok ER (sendCell c (par s.val)) (s.val / 2) false)
    ∗ bigSep Finset.univ fun s : Fin 31 => dutyTok ER (recvCell c s) 0 false)

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- What the step over all devices makes of it. -/
def G' (c : Dev nD) : sProp 𝕄 := iprop(∃ K, records m ρ K ∗ linear c)

/-- The launch element funds every device's share. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_sum, bigSep_univ_sum, bigSep_univ_eq_bigSepL [false, true] (by decide) (by decide)]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores: the send and the receive ones. -/
theorem ownSems0_eq (c : Dev nD) : (Pipeline.ownSems0 (Ix := Unit) (Name := ℕ) (U := UU) (Lvl := ℕ) (Val := Elt F) (τ := τ) osem c : sProp 𝕄)
    = iprop((semVal (sendCell c 0) 0 ∗ semVal (sendCell c 1) 0) ∗ bigSep Finset.univ fun s : Fin 31 => semVal (recvCell c s) 0) := by
  unfold Pipeline.ownSems0; rw [bigSep_univ_sum, bigSep_univ_eq_bigSepL [(0 : Fin 2), 1] (by decide) (by decide)]; rfl

omit [FloatOps F] in
/-- All of a device's cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_sum, bigSep_univ_eq_bigSepL [()] (by decide) (by decide)]
  unfold Pipeline.ownSems0
  show _ ⊢ iprop(semVal (barCell c) 0 ∗ bigSep Finset.univ fun k : OK => semVal (kcell (c, .inr k)) 0)
  iintro ⟨HO, HB⟩
  isplitl [HB]; · iexact HB
  iexact HO

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt around the ring: a barrier's `false` token and the receive tokens go to the left neighbour, its
    `true` token to the right one. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun s : Fin 31 => dutyTok ER (recvCell c s) 0 false : sProp 𝕄))]
  iintro ⟨⟨H1, H2⟩, H3, H4⟩
  isplitl [H1]; · iexact H1
  isplitl [H2]; · iexact H2
  isplitl [H3]; · iexact H3
  iexact H4

omit [FloatOps F] in
/-- A persistent fact is shared by every member of a family. -/
theorem share_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants gathered into one record, the tokens dealt around. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  have hin : ∀ c ∈ (Finset.univ : Finset (Dev nD)), iprop(records m ρ K ∗ linear c) ⊢ (G' m ρ c : sProp 𝕄) := fun c _ => by
    unfold G'; iintro H; iexists K; iexact H
  iapply (share_all hin)
  isplitr
  · unfold records; isplitl; · iexact HI
    iexact HR
  · unfold linear; rw [bigSep_sep']
    isplitl [Hat]; · iexact Hat
    iexact Htk

/-- The step over all devices: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two cells of the ring agree exactly when their devices and kinds do. -/
theorem cell_iff {a b : Dev nD} {k k' : CK} : kcell (a, k) = kcell (b, k') ↔ a = b ∧ k = k' :=
  ⟨fun h => Prod.ext_iff.mp (kcell_injective h), fun ⟨h, h'⟩ => by rw [h, h']⟩

/-- What `d` owes its right neighbour's receive cells, at cell `k` of device `c`. -/
theorem Os_at (d c : Dev nD) (k : CK) : Os d 0 (kcell (c, k)) () = if d = prv c ∧ ∃ s, k = .inr (.inr s) then N else 0 := by
  unfold Os
  rw [todo_zero, Finset.sum_apply, Finsupp.finset_sum_apply]
  split
  · rename_i h
    obtain ⟨rfl, s, rfl⟩ := h
    rw [Finset.sum_eq_single s]
    · rw [tallyAt_apply, nxt_prv, if_pos ⟨rfl, rfl⟩]
    · intro j _ hj
      rw [tallyAt_apply, if_neg]
      rintro ⟨h, -⟩
      have h' := (cell_iff (k := .inr (.inr s)) (k' := .inr (.inr j))).mp h
      exact hj (Sum.inr.inj (Sum.inr.inj h'.2)).symm
    · intro h; exact absurd (Finset.mem_univ _) h
  · rename_i hn
    refine Finset.sum_eq_zero fun j _ => ?_
    rw [tallyAt_apply, if_neg]
    rintro ⟨h, -⟩
    have h' := (cell_iff (k' := .inr (.inr j))).mp h
    exact hn ⟨((prv_nxt d).symm.trans (congrArg prv h'.1.symm)), j, h'.2⟩

/-- What device `d` owes device `c`'s barrier cell: one unit if it is a neighbour, on each side. -/
theorem owed_bar (d c : Dev nD) : O₀ d (barCell c) () = (if d = prv c then 1 else 0) + (if d = nxt c then 1 else 0) := by
  have h0 : Os d 0 (barCell c) () = 0 := (Os_at d c (.inl ())).trans (if_neg fun h => by obtain ⟨-, s, hs⟩ := h; cases hs)
  have hbar : ∀ e : Dev nD, tallyAt (barCell e) () 1 (barCell c) () = if c = e then 1 else 0 := fun e => by
    rw [tallyAt_apply]
    exact if_congr ⟨fun h => ((cell_iff (k := .inl ()) (k' := .inl ())).mp h.1).1, fun h => ⟨by rw [h], rfl⟩⟩ rfl rfl
  unfold O₀ O₁
  rw [Pi.add_apply, Finsupp.add_apply, Pi.add_apply, Finsupp.add_apply, h0, hbar, hbar, Nat.zero_add]
  refine congrArg₂ (· + ·) ?_ ?_
  · exact if_congr ⟨fun h => by rw [h, prv_nxt], fun h => by rw [h, nxt_prv]⟩ rfl rfl
  · exact if_congr ⟨fun h => by rw [h, nxt_prv], fun h => by rw [h, prv_nxt]⟩ rfl rfl

/-- What device `d` owes device `c`'s receive cells. -/
theorem owed_recv (d c : Dev nD) (s : Fin 31) : O₀ d (recvCell c s) () = if d = prv c then N else 0 := by
  have hbar : ∀ e : Dev nD, tallyAt (barCell e) () 1 (recvCell c s) () = 0 := fun e => by
    rw [tallyAt_apply]
    refine if_neg fun h => ?_
    have h' := (cell_iff (k := .inr (.inr s)) (k' := .inl ())).mp h.1
    cases h'.2
  have h0 : Os d 0 (recvCell c s) () = if d = prv c then N else 0 :=
    (Os_at d c (.inr (.inr s))).trans (if_congr ⟨fun h => h.1, fun h => ⟨h, s, rfl⟩⟩ rfl rfl)
  unfold O₀ O₁
  rw [Pi.add_apply, Finsupp.add_apply, Pi.add_apply, Finsupp.add_apply, h0, hbar, hbar, Nat.add_zero]

/-- A barrier cell's launch credit. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- A receive cell's launch credit. -/
theorem launch_recv (c : Dev nD) (s : Fin 31) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (prv c) fun _ => N,
    if_pos (Finset.mem_univ _)]

/-- The receive semaphores, as an embedding. -/
def recvEmb : Fin 31 ↪ SemLoc sig := ⟨fun s => .dma (recvSem s), fun s s' h => by
  have h' : Role.recv s = Role.recv s' := by rw [← role_recv s, ← role_recv s']; exact congrArg role h
  exact Role.recv.inj h'⟩

omit [FloatOps F] in
/-- The launch credit a device uses: its barrier's two units and one block for every receive. -/
theorem creds (c : Dev nD) : (Pipeline.launchCred O₀ c : sProp 𝕄)
    ⊢ iprop(cred (tallyAt (barCell c) () 2) ∗ bigSep Finset.univ fun s : Fin 31 => cred (tallyAt (recvCell c s) () N)) := by
  unfold Pipeline.launchCred
  rw [bigSep_univ_at _ (SemLoc.reg barS), launch_bar]
  refine sep_mono_right ((BI.bigSep_subset (t := Finset.univ.map recvEmb) fun x hx => ?_).trans ?_)
  · obtain ⟨s, -, rfl⟩ := Finset.mem_map.mp hx
    exact Finset.mem_erase.mpr ⟨(fun h => nomatch h), Finset.mem_univ _⟩
  · rw [bigSep_map]
    exact Entails.of_eq (bigSep_congr fun s _ => congrArg cred (launch_recv c s))

/-! ## The scratch buffers, slot by slot -/

/-- A send slot's elements. -/
theorem send_set_eq (k : Fin 2) : (sendM k).view.set = (sendR k).set := (send_set k).trans (View.set_slice_whole _ _)
/-- A receive slot's elements. -/
theorem recv_set_eq (s : Fin 31) : (recvM s).view.set = (recvR s).set := (recv_set s).trans (View.set_slice_whole _ _)

/-- No two send slots share an element, and they fill their buffer. -/
theorem send_disjoint (k k' : Fin 2) (h : k ≠ k') : Disjoint (sendR k).set (sendR k').set :=
  lead_disjoint (s := S2x64x2048) (0 : Fin 3) 1 (fun k : Fin 2 => ![k.val, 0, 0]) S1x64x2048.size send_inb (fun b => (Nat.one_mul _).symm) rfl k k' h
/-- The send slots make up the send buffer. -/
theorem send_cover : Finset.univ.biUnion (fun k : Fin 2 => (sendR k).set) = Finset.univ :=
  lead_cover (s := S2x64x2048) (0 : Fin 3) 1 (fun k : Fin 2 => ![k.val, 0, 0]) S1x64x2048.size send_inb (fun b => (Nat.one_mul _).symm)
    (fun b a ha => by fin_cases a <;> first | rfl | exact absurd rfl ha) rfl (fun a ha => by fin_cases a <;> first | rfl | exact absurd rfl ha) rfl
/-- No two receive slots share an element, and they fill their buffer. -/
theorem recv_disjoint (s s' : Fin 31) (h : s ≠ s') : Disjoint (recvR s).set (recvR s').set :=
  lead_disjoint (s := S31x64x2048) (0 : Fin 3) 1 (fun s : Fin 31 => ![s.val, 0, 0]) S1x64x2048.size recv_inb (fun b => (Nat.one_mul _).symm) rfl s s' h
/-- The receive slots make up the receive buffer. -/
theorem recv_cover : Finset.univ.biUnion (fun s : Fin 31 => (recvR s).set) = Finset.univ :=
  lead_cover (s := S31x64x2048) (0 : Fin 3) 1 (fun s : Fin 31 => ![s.val, 0, 0]) S1x64x2048.size recv_inb (fun b => (Nat.one_mul _).symm)
    (fun b a ha => by fin_cases a <;> first | rfl | exact absurd rfl ha) rfl (fun a ha => by fin_cases a <;> first | rfl | exact absurd rfl ha) rfl

omit [FloatOps F] in
/-- A buffer held slot by slot: the slots of a whole buffer, each at some contents. -/
theorem slots_of_full (c : Dev nD) (b : Ref sig .tc) {n : ℕ} (I : Fin n → Finset (Idx ((c : Thread nD τ).loc b)))
    (hd : ∀ k k', k ≠ k' → Disjoint (I k) (I k')) (hc : Finset.univ.biUnion I = Finset.univ) :
    (iprop(∃ f, full (F := F) c b f) : sProp 𝕄) ⊢ bigSep Finset.univ fun k => iprop(∃ f, (c : Thread nD τ).loc b ↦[I k]{fullShare} f) := by
  iintro ⟨%f, H⟩
  have h : (full (F := F) c b f : sProp 𝕄) ⊢ bigSep Finset.univ fun k => iprop(∃ f, (c : Thread nD τ).loc b ↦[I k]{fullShare} f) := by
    unfold full
    rw [pointsTo_blocks I hd hc f]
    refine bigSep_mono fun k _ => ?_
    show ((c : Thread nD τ).loc b ↦[I k]{fullShare} f : sProp 𝕄) ⊢ iprop(∃ f, (c : Thread nD τ).loc b ↦[I k]{fullShare} f)
    iintro H; iexists f; iexact H
  iapply h; iexact H

omit [FloatOps F] in
/-- The send buffer's slots, the receive buffer's slots. -/
theorem send_slots (c : Dev nD) : (bigSep Finset.univ fun k : Fin 2 => iprop(∃ f, (c : Thread nD τ).loc cc0_scratch1 ↦[(sendR k).set]{fullShare} f) : sProp 𝕄)
    = iprop(anyOf (F := F) c (sendM 0) ∗ anyOf c (sendM 1)) := by
  have h : ∀ k : Fin 2, (iprop(∃ f, (c : Thread nD τ).loc cc0_scratch1 ↦[(sendR k).set]{fullShare} f) : sProp 𝕄) = anyOf (F := F) c (sendM k) := fun k => by
    unfold anyOf pts; rw [send_set_eq]
  rw [bigSep_univ_eq_bigSepL [(0 : Fin 2), 1] (by decide) (by decide), bigSepL_cons_cons, bigSepL_singleton, h, h]; rfl
omit [FloatOps F] in
/-- The receive buffer is its slots, each with some contents. -/
theorem recv_slots (c : Dev nD) : (bigSep Finset.univ fun s : Fin 31 => iprop(∃ f, (c : Thread nD τ).loc cc0_scratch2 ↦[(recvR s).set]{fullShare} f) : sProp 𝕄)
    = bigSep Finset.univ fun s : Fin 31 => anyOf (F := F) c (recvM s) :=
  bigSep_congr fun s _ => by unfold anyOf pts; rw [recv_set_eq]

/-- The scratch buffers taken apart at entry. -/
theorem scratch_intro (c : Dev nD) : (Pipeline.scopedRest cfg0.spec c : sProp 𝕄) ⊢ scratch c := by
  rw [scopedRest0_eq]; unfold scratch
  iintro ⟨H0, H1, H2⟩
  isplitl [H0]; · iexact H0
  isplitl [H1]
  · rw [← send_slots]
    iapply (slots_of_full (F := F) c cc0_scratch1 (fun k : Fin 2 => (sendR k).set) send_disjoint send_cover); iexact H1
  · rw [← recv_slots]
    iapply (slots_of_full (F := F) c cc0_scratch2 (fun s : Fin 31 => (recvR s).set) recv_disjoint recv_cover); iexact H2

/-- The scratch buffers put together at exit. -/
theorem scratch_exit (c : Dev nD) (f₁ : Buf (Elt F) ((c : Thread nD τ).loc cc0_scratch1)) (f₂ : Buf (Elt F) ((c : Thread nD τ).loc cc0_scratch2)) :
    (scratch c : sProp 𝕄) ⊢ Pipeline.scopedRest cfg0.spec c := by
  rw [scopedRest0_eq]; unfold scratch
  rw [← send_slots, ← recv_slots]
  iintro ⟨H0, H1, H2⟩
  isplitl [H0]; · iexact H0
  isplitl [H1]
  · iapply (pointsTo_blocks_join_exists (fun k : Fin 2 => (sendR k).set) send_disjoint send_cover f₁); iexact H1
  · iapply (pointsTo_blocks_join_exists (fun s : Fin 31 => (recvR s).set) recv_disjoint recv_cover f₂); iexact H2

/-! ## The launch's side conditions -/

/-- What a device starts from, out of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- The body's entry. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_intro (F := F) c); iexact Hr

/-- The body's exit: every semaphore at zero, the scratch buffers whole. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ spent
  rw [bigSep_sep']
  iintro ⟨H0, H1, ⟨H2, HzV⟩, HzS, HzB⟩
  isplitl [HzB]; · iexact HzB
  isplitl [HzS HzV]
  · isplitl [HzS] <;> iassumption
  iapply (scratch_exit (F := F) c (m _) (m _)); unfold scratch
  isplitl [H0]; · iexact H0
  isplitl [H1]; · iexact H1
  iexact H2

/-- No staging semaphore is the ring's. -/
theorem stage_role : ∀ (w : Fin cfg0.W) (s : Fin (cfg0.win w).nbuf), role (.dma ((cfg0.win w).sem s)) = .other := by decide
/-- A staging buffer's semaphore is at the lowest level. -/
theorem stage_lv (c : Dev nD) (w : Fin cfg0.W) (s : Fin (cfg0.win w).nbuf) : lv ((c : Thread nD τ), .dma ((cfg0.win w).sem s)) () = 0 := by
  unfold lv; rw [stage_role]

/-- The staging waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lv c w s) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The run of the whole program on the ring of thirty-two devices, for any float values, from any memory with zero
    counters: every weakly fair execution terminates, every window's array holds what the proof data says, and every
    semaphore counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The `w` array after the run holds what it held. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Value.lean ====
/-
# The value

At the extended reals every format change is the identity, so what a device sends at hop `s` is a sum of `s + 1` block
products, and what it stores is the sum over all the devices of the products for its own block of rows. The sum over
the devices of the sums over one device's 64 positions is the sum over all 2048 positions, which is the reference's.
-/
module

public import proofs.«01_k».proof.Proof.Launch
public import proofs.«01_k».proof.Proof.Gen.KernelIdeal.Points
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.WholeRead
public import Idealize.ShloMosaic.PureOps.Ideal.Laws

@[expose] public section

set_option maxRecDepth 16384

noncomputable section

namespace Cert.RingProof

open Cert.KernelIdeal Cert.KernelIdeal.Gen
open Idealize.ShloMosaic
open Idealize.ShloMosaic.TcCoe
open Idealize.ShloMosaic.ValueIdx
open Idealize.SL.Sem

/-! ## Rows cut into 32 blocks of 64 -/

/-- Position `l` of block `d`, among all 2048. -/
def row (d : Fin 32) (l : Fin 64) : Fin 2048 := ⟨64 * d.val + l.val, by have := d.isLt; have := l.isLt; omega⟩

/-- Summing block by block is summing over all the positions. -/
theorem sum_row {A : Type} [AddCommMonoid A] (g : Fin 2048 → A) : ∑ d : Fin 32, ∑ l : Fin 64, g (row d l) = ∑ k : Fin 2048, g k := by
  rw [← Fintype.sum_prod_type' (fun d l => g (row d l))]
  refine Fintype.sum_equiv (finProdFinEquiv : Fin 32 × Fin 64 ≃ Fin 2048) _ _ fun p => congrArg g (Fin.ext ?_)
  show 64 * p.1.val + p.2.val = p.2.val + 64 * p.1.val
  omega

/-- The device `t` places before `c` on the ring. -/
def back (c : Fin 32) (t : ℕ) : Fin 32 := ⟨(c.val + 31 * t) % 32, Nat.mod_lt _ (by decide)⟩

/-- The device no place before `c` is `c`. -/
theorem back_zero (c : Fin 32) : back c 0 = c := Fin.ext (by have := c.isLt; show (c.val + 31 * 0) % 32 = c.val; omega)

/-- One place further before `c` is as many places before the device before `c`. -/
theorem back_prv (c : Fin 32) (t : ℕ) : back (prv c) t = back c (t + 1) :=
  Fin.ext (by show ((c.val + 31) % 32 + 31 * t) % 32 = (c.val + 31 * (t + 1)) % 32; omega)

/-- Going back over 32 places meets every device once. -/
theorem sum_back {A : Type} [AddCommMonoid A] (c : Fin 32) (g : Fin 32 → A) : ∑ t ∈ Finset.range 32, g (back c t) = ∑ d : Fin 32, g d := by
  rw [Finset.sum_range]
  refine Fintype.sum_bijective (fun t : Fin 32 => back c t.val) (Function.Injective.bijective_of_finite fun t u h => ?_) _ _ fun _ => rfl
  have h' : (c.val + 31 * t.val) % 32 = (c.val + 31 * u.val) % 32 := congrArg Fin.val h
  exact Fin.ext (by have := t.isLt; have := u.isLt; omega)

/-! ## What a device reads and multiplies -/

variable (m : (ℓ : Loc nD τ sig) → Buf (Elt Ideal) ℓ) (ρ : Dev nD → PrngReg)

/-- Device `d`'s columns of `x`. -/
def xAt (d : Dev nD) : FVec Ideal ⟨2, ![2048, 64]⟩ .bf16 := m ((d.tc : Thread nD τ).loc main_arg0)
/-- Device `d`'s rows of `w`. -/
def wAt (d : Dev nD) : FVec Ideal ⟨2, ![64, 2048]⟩ .bf16 := m ((d.tc : Thread nD τ).loc main_arg1)

/-- Device `d`'s product for block `q` of the rows, at row `i` of the block and column `j`. -/
def prod (d q : Fin 32) (i : Fin 64) (j : Fin 2048) : EReal := ∑ l : Fin 64, xAt m d (ix2 (row q i) l) * wAt m d (ix2 l j)

/-- The staged `x` is the device's argument. -/
theorem xstg_eq (c : Dev nD) : xstg m ρ c = m ((c.tc : Thread nD τ).loc main_arg0) := by
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) _

/-- The staged `w` is the device's argument. -/
theorem wstg_eq (c : Dev nD) : wstg m ρ c = m ((c.tc : Thread nD τ).loc main_arg1) := by
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) _

/-- The copy of `w` the products read is the device's argument. -/
theorem wb_eq (c : Dev nD) : wb m ρ c = wAt m c := by
  unfold wb k0_pay2
  dsimp only
  rw [shapeCast_self, shapeCast_self, wstg_eq]
  rfl

/-- A load of 64 rows of `x` from row `64 q` on, read at an index. -/
theorem load_rows (q : Fin 32) (off : Fin 2 → ℕ) (hoff : off = ![64 * q.val, 0]) (inb : ∀ a, off a + S64x64.size a ≤ S2048x64.size a)
    (f : FVec Ideal ⟨2, ![2048, 64]⟩ .bf16) (i l : Fin 64) :
    (xM.view.readAt (Elt Ideal) (Rect.unit (s := S2048x64) off S64x64.size inb).toLoadRect f : FVec Ideal S64x64 .bf16) (ix2 i l) = f (ix2 (row q i) l) := by
  subst hoff
  refine congrArg f (funext fun a => Fin.ext ?_)
  match a with
  | ⟨0, _⟩ => show 64 * q.val + 1 * i.val = 64 * q.val + i.val; omega
  | ⟨1, _⟩ => show 0 + 1 * l.val = l.val; omega

/-- The product of 64 rows of `x` with `w`, into zero, read at an index. -/
theorem mul_at (X : FVec Ideal S64x64 .bf16) (W : FVec Ideal S64x2048 .bf16) (i : Fin 64) (j : Fin 2048) :
    k0_pay5 (F := Ideal) X W (ix2 i j) = (∑ l : Fin 64, X (ix2 i l) * W (ix2 l j) : EReal) := by
  unfold k0_pay5
  rw [shapeCast_self]
  refine (Ideal.matmul_plain_apply (M := 64) (K := 64) (N := 2048) none X W _ i j).trans ?_
  show Ideal.ofBits .f32 0x00000000#32 + _ = _
  rw [Ideal.ofBits_zero_f32, zero_add]

/-- The block of rows whose sum a device sends at hop `s`. -/
def chunk (c : Fin 32) (s : ℕ) : Fin 32 := ⟨(c.val + 63 - s) % 32, Nat.mod_lt _ (by decide)⟩

/-- The device before `c` sends at hop `s` for the block `c` itself sends for at the next hop. -/
theorem chunk_prv (c : Fin 32) {s : ℕ} (h : s < 31) : chunk (prv c) s = chunk c (s + 1) :=
  Fin.ext (by have := c.isLt; show ((c.val + 31) % 32 + 63 - s) % 32 = (c.val + 63 - (s + 1)) % 32; omega)

/-- The product a device adds at hop `s`. -/
theorem part_at (c : Fin 32) {s : ℕ} (h : s < 31) (i : Fin 64) (j : Fin 2048) : part m ρ c s (ix2 i j) = prod m c (chunk c (s + 1)) i j := by
  unfold part
  rw [slot_eq h, mul_at, wb_eq]
  refine Finset.sum_congr rfl fun l _ => congrArg (· * wAt m c (ix2 l j)) ?_
  rw [xstg_eq]
  refine load_rows (chunk c (s + 1)) _ ((k0_off2_eq c ⟨s, h⟩).trans ?_) _ (xAt m c) i l
  have : (c.val + 62 - s) % 32 = (c.val + 63 - (s + 1)) % 32 := by omega
  show ![64 * ((c.val + 62 - s) % 32), 0] = ![64 * ((c.val + 63 - (s + 1)) % 32), 0]
  rw [this]

/-- What a device sends at the first hop. -/
theorem sent_zero_at (c : Fin 32) (i : Fin 64) (j : Fin 2048) : sent m ρ 0 c (ix2 i j) = prod m c (chunk c 0) i j := by
  refine (mul_at (xM.view.readAt (Elt Ideal) (blkR₀ c).toLoadRect (xstg m ρ c)) (wb m ρ c) i j).trans ?_
  rw [wb_eq]
  refine Finset.sum_congr rfl fun l _ => congrArg (· * wAt m c (ix2 l j)) ?_
  rw [xstg_eq]
  refine load_rows (chunk c 0) _ ((k0_off1_eq c).trans ?_) _ (xAt m c) i l
  have : (c.val + 31) % 32 = (c.val + 63 - 0) % 32 := by omega
  show ![64 * ((c.val + 31) % 32), 0] = ![64 * ((c.val + 63 - 0) % 32), 0]
  rw [this]

/-- What a device sends at hop `s`: the products of the `s + 1` devices up to itself, for one block of rows. -/
theorem sent_at (s : ℕ) : s ≤ 31 → ∀ (c : Fin 32) (i : Fin 64) (j : Fin 2048),
    sent m ρ s c (ix2 i j) = ∑ t ∈ Finset.range (s + 1), prod m (back c t) (chunk c s) i j := by
  induction s with
  | zero =>
    intro _ c i j
    rw [sent_zero_at, Finset.sum_range_one, back_zero]
  | succ s ih =>
    intro h c i j
    rw [Finset.sum_range_succ', back_zero, ← part_at m ρ c (by omega : s < 31)]
    show sent m ρ s (prv c) (ix2 i j) + part m ρ c s (ix2 i j) = _
    rw [ih (by omega) (prv c), chunk_prv c (by omega)]
    simp only [back_prv]

/-- What a device stores: the sum over all the devices of the products for its own block of rows. -/
theorem outAt_at (c : Fin 32) (i : Fin 64) (j : Fin 2048) : (show FVec Ideal S64x2048 .f32 from outAt m ρ c) (ix2 i j) = ∑ d : Fin 32, prod m d c i j := by
  have hc : chunk c 31 = c := Fin.ext (by have := c.isLt; show (c.val + 63 - 31) % 32 = c.val; omega)
  refine (sent_at m ρ 31 (by omega) c i j).trans ?_
  rw [hc]
  exact sum_back c fun d => prod m d c i j

/-! ## The result array -/

/-- The result array ends holding what the device stores. -/
theorem finalA_o (c : Dev nD) : finalA m ρ c (2 : Fin 3) = outAt m ρ c := by
  have hz' : (fun a => win0_2.index t0_0 a * main_v1.ty.shape.size a) = fun _ => 0 := funext fun a => by fin_cases a <;> decide
  refine (Memref.read_access_unit_zero (Elt Ideal) main_v1 hz' (fun a => by rw [congrFun hz' a]; simp) _).symm.trans ?_
  show (win0_2.blk t0_0).view.read (Elt Ideal) ((dats m ρ 0 c).arrAt (2 : Fin 3) (t0_0.val + 1)) = _
  rw [(dats m ρ 0 c).arrAt_succ (2 : Fin 3) t0_0, if_pos (flush0_2 t0_0)]
  exact View.read_write_univ _ _

/-! ## The reference -/

/-- The reference's product of the whole arrays, at the extended reals. -/
def refOut (X W : FVec Ideal ⟨2, ![2048, 2048]⟩ .bf16) : FVec Ideal ⟨2, ![2048, 2048]⟩ .f32 :=
  Host.dotGeneral (F := Ideal) Cert.ReferenceIdeal.dot_S2048x2048_S2048x2048_S2048x2048_1_0_0_1_n_n none
    (extf .f32 X Cert.ReferenceIdeal.Facts₀.bitsLt_bf16_f32) (extf .f32 W Cert.ReferenceIdeal.Facts₀.bitsLt_bf16_f32)

/-- The reference's product read at an index. -/
theorem refOut_at (X W : FVec Ideal ⟨2, ![2048, 2048]⟩ .bf16) (a b : Fin 2048) : refOut X W (ix2 a b) = ∑ k : Fin 2048, X (ix2 a k) * W (ix2 k b) :=
  StackMember.dotGeneral_plain_apply (m := 2048) (k := 2048) (n := 2048) none _ _ a b

/-- With the arguments cut over the devices, the product a device adds is the whole arrays' product over its positions. -/
theorem prod_cut (X W : FVec Ideal ⟨2, ![2048, 2048]⟩ .bf16) (hX : ∀ c : Fin 32, xAt m c = Layout.block ⟨2, ![2048, 64]⟩ ⟨2, ![2048, 2048]⟩ 1 32 c X)
    (hW : ∀ c : Fin 32, wAt m c = Layout.block ⟨2, ![64, 2048]⟩ ⟨2, ![2048, 2048]⟩ 0 32 c W) (d q : Fin 32) (i : Fin 64) (j : Fin 2048) :
    prod m d q i j = ∑ l : Fin 64, X (ix2 (row q i) (row d l)) * W (ix2 (row d l) j) := by
  refine Finset.sum_congr rfl fun l _ => congrArg₂ (· * ·) ?_ ?_
  · rw [hX, Layout.block_apply]
    refine congrArg X (funext fun a => Fin.ext ?_)
    match a with
    | ⟨0, _⟩ => rfl
    | ⟨1, _⟩ => show d.val * 64 + l.val = 64 * d.val + l.val; omega
  · rw [hW, Layout.block_apply]
    refine congrArg W (funext fun a => Fin.ext ?_)
    match a with
    | ⟨0, _⟩ => show d.val * 64 + l.val = 64 * d.val + l.val; omega
    | ⟨1, _⟩ => rfl

/-- With the arguments cut over the devices, what device `c` stores is block `c` of the reference's product. -/
theorem outAt_eq (X W : FVec Ideal ⟨2, ![2048, 2048]⟩ .bf16) (hX : ∀ c : Fin 32, xAt m c = Layout.block ⟨2, ![2048, 64]⟩ ⟨2, ![2048, 2048]⟩ 1 32 c X)
    (hW : ∀ c : Fin 32, wAt m c = Layout.block ⟨2, ![64, 2048]⟩ ⟨2, ![2048, 2048]⟩ 0 32 c W) (c : Fin 32) :
    (outAt m ρ c : FVec Ideal ⟨2, ![64, 2048]⟩ .f32) = Layout.block ⟨2, ![64, 2048]⟩ ⟨2, ![2048, 2048]⟩ 0 32 c (refOut X W) := by
  funext i
  obtain ⟨i, j, rfl⟩ : ∃ a b, i = ix2 a b := ⟨i 0, i 1, eq_ix2 i⟩
  rw [Layout.block_apply]
  refine (outAt_at m ρ c i j).trans ?_
  have hi : (Layout.Tiles.idx (S := ⟨2, ![64, 2048]⟩) (T := ⟨2, ![2048, 2048]⟩) (a := 0) (k := 32) (by decide) c (ix2 i j)) = ix2 (row c i) j := by
    refine funext fun a => Fin.ext ?_
    match a with
    | ⟨0, _⟩ => show c.val * 64 + i.val = 64 * c.val + i.val; omega
    | ⟨1, _⟩ => rfl
  refine Eq.trans ?_ (congrArg (refOut X W) hi).symm
  rw [refOut_at, ← sum_row]
  exact Finset.sum_congr rfl fun d _ => prod_cut m X W hX hW d c i j

end Cert.RingProof

end
-- ==== Proof.lean ====
/-
# The claims

One run of the program, for any float values, gives both frames. At the extended reals the same run gives the value:
each device's result is its block of rows of the reference's product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

set_option maxRecDepth 16384

noncomputable section

namespace Cert.Proof

open Idealize.ShloMosaic Idealize.ShloMosaic.TcCoe Idealize.SL.Sem
open Cert.RingProof (run_main finalA_x finalA_w finalA_o outAt_eq refOut)

/-- The program runs, for any float values, leaves its arguments as they were, and ends with every counter at zero. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0 :=
  (θ_run Cert.KernelIdeal.defs _ _).mono (fun _ h =>
    ⟨fun c => ⟨(h.1 c (0 : Fin 3)).trans (finalA_x m ρ c), (h.1 c (1 : Fin 3)).trans (finalA_w m ρ c)⟩, h.2⟩) (run_main m ρ)

/-- The two programs have the same kernel body. -/
theorem bodies_same {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So the same regions and pipelines. -/
theorem defs_same {F : FTy → Type} [FloatOps F] : Cert.Kernel.defs (F := F) = Cert.KernelIdeal.defs :=
  congrArg (Pipeline.defs Cert.KernelIdeal.pcfgs) bodies_same

/-- The kernel runs, leaves its arguments as they were, and ends with every counter at zero. -/
theorem frame_kernel : Cert.quiescent_Kernel := by
  intro m ρ _
  rw [defs_same]
  exact run_args (F := Bits) m ρ

/-- So does the kernel at the extended reals. -/
theorem frame_kernelIdeal : Cert.quiescent_KernelIdeal := fun m ρ _ => run_args (F := Ideal) m ρ

/-- The reference runs, leaves its arguments as they were, and has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals each device's result is its block of rows of the reference's product. -/
theorem value : Cert.algebraic_KernelIdeal_ReferenceIdeal := fun m ρ m' ρ' _ hargs =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨((h.1 c (2 : Fin 3)).trans (finalA_o m ρ c)).trans (outAt_eq m ρ _ _ (fun d => (hargs d).1) (fun d => (hargs d).2) c),
        (h.1 c (0 : Fin 3)).trans (finalA_x m ρ c), (h.1 c (1 : Fin 3)).trans (finalA_w m ρ c)⟩) (run_main (F := Ideal) m ρ),
    (θ_run Cert.ReferenceIdeal.defs _ _).mono (fun _ h => h 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
